-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x1024 : Shape := ⟨3, ![4, 4096, 1024]⟩
abbrev S16384x1024 : Shape := ⟨2, ![16384, 1024]⟩
abbrev S4x2048x1024 : Shape := ⟨3, ![4, 2048, 1024]⟩
abbrev S3x2048x1024 : Shape := ⟨3, ![3, 2048, 1024]⟩
abbrev S4 : Shape := ⟨1, ![4]⟩
abbrev S3 : Shape := ⟨1, ![3]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x2048x1024 : Shape := ⟨3, ![1, 2048, 1024]⟩
abbrev S2048x1024 : Shape := ⟨2, ![2048, 1024]⟩
abbrev S1x1024 : Shape := ⟨2, ![1, 1024]⟩
abbrev S256x256 : Shape := ⟨2, ![256, 256]⟩
abbrev S1x256x1024 : Shape := ⟨3, ![1, 256, 1024]⟩
abbrev S256x1024 : Shape := ⟨2, ![256, 1024]⟩
abbrev S1024 : Shape := ⟨1, ![1024]⟩

abbrev nBuf : Space → Nat
  | .hbm => 4
  | .vmem => 2
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .f32⟩
  | .hbm, ⟨2, _⟩ => ⟨S16384x1024, .f32⟩
  | .hbm, ⟨3, _⟩ => ⟨S4x4096x1024, .f32⟩
  | .local _ .vmem, ⟨0, _⟩ => ⟨S4x2048x1024, .f32⟩
  | .local _ .vmem, ⟨1, _⟩ => ⟨S3x2048x1024, .f32⟩
  | _, _ => ⟨S4x4096x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [FloatOps F]

abbrev grid0 : Pipeline.Grid := .none
-- ==== ReferenceIdeal.lean ====
abbrev S4x4096x1024 : Shape := ⟨3, ![4, 4096, 1024]⟩
abbrev S4x1x1024 : Shape := ⟨3, ![4, 1, 1024]⟩
abbrev S_ : Shape := ⟨0, ![]⟩
abbrev S4x4095x1024 : Shape := ⟨3, ![4, 4095, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S_, .f32⟩
  | .hbm, ⟨3, _⟩ => ⟨S4x1x1024, .f32⟩
  | .hbm, ⟨4, _⟩ => ⟨S4x4095x1024, .f32⟩
  | .hbm, ⟨5, _⟩ => ⟨S4x4096x1024, .f32⟩
  | .hbm, ⟨6, _⟩ => ⟨S_, .f32⟩
  | .hbm, ⟨7, _⟩ => ⟨S_, .f32⟩
  | .hbm, ⟨8, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_call0_cst : Ref sig .tc := ⟨.hbm, 6, rfl⟩
abbrev main_call0_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Program.lean ====
/-
  The kernel body as a short program: twelve row tiles, each read into one of four input slots, scanned in chunks of
  256 rows with a carried row of column sums, and written back from one of three output slots. `body_eq` says the
  printed straight-line body is that program.
-/
module

public import proofs.«01_k».proof.Proof.Gen.KernelIdeal.Points
public import Idealize.ShloMosaic.Lib.Pipeline.Kit
public import Idealize.ShloMosaic.Lib.Pipeline.Regions

@[expose] public section

noncomputable section

namespace Cert.KernelIdeal.Scan

open Cert.KernelIdeal Cert.KernelIdeal.Gen
open Idealize.ShloMosaic Idealize.ShloMosaic.TcCoe
open Idealize.SL Idealize.SL.Sem Idealize.ShloMosaic.Pipeline

variable {F : FTy → Type} [FloatOps F]

/-! ## The schedule -/

/-- The number of rows of tile `t`. -/
def sched : ℕ → ℕ
  | 0 => 512 | 1 => 512 | 2 => 1024 | 3 => 2048 | 4 => 2048 | 5 => 2048
  | 6 => 2048 | 7 => 2048 | 8 => 2048 | 9 => 1024 | 10 => 512 | 11 => 512 | _ => 0

/-- The first row of tile `t`. -/
def start : ℕ → ℕ
  | 0 => 0 | 1 => 512 | 2 => 1024 | 3 => 2048 | 4 => 4096 | 5 => 6144
  | 6 => 8192 | 7 => 10240 | 8 => 12288 | 9 => 14336 | 10 => 15360 | 11 => 15872 | _ => 16384

/-- A tile fits a slot. -/
theorem sched_le (t : ℕ) : sched t ≤ 2048 := by
  unfold sched; split <;> omega

/-- A tile has a whole number of chunks, and all but the tiles past the last have rows. -/
theorem sched_chunks (t : ℕ) : 256 * (sched t / 256) = sched t := by
  unfold sched; split <;> rfl

/-- A tile has at most eight chunks. -/
theorem chunks_le (t : ℕ) : 0 + sched t / 256 ≤ 8 := by
  have := sched_le t; omega

/-- Tiles lie inside the array. -/
theorem start_le (t : ℕ) : start t + sched t ≤ 16384 := by
  unfold start sched; split <;> omega

/-! ## What one chunk computes -/

/-- The row of zeros a batch starts from. -/
def zeroRow : FVec F S1x1024 .f32 := broadcast S1x1024 (Scalar.ofBits .f32 0x00000000#32)

/-- The strictly lower triangular matrix of ones. -/
def tri : FVec F S256x256 .f32 :=
  sitofp .f32 (extui 32 (cmpi .slt (iota .tc S256x256 32 [1] iota_S256x256_d1_w32) (iota .tc S256x256 32 [0] iota_S256x256_d0_w32)) natLt_1_32)

/-- A chunk as a matrix. -/
def mat (v : Vec F S1x256x1024 .f32) : FVec F S256x1024 .f32 :=
  shapeCast S256x1024 v shapeCasts_S1x256x1024_S256x1024

/-- What a chunk `v` leaves in the output slot from the carried row `carry`. -/
def outChunk (carry : FVec F S1x1024 .f32) (v : Vec F S1x256x1024 .f32) : Vec F S1x256x1024 .f32 :=
  shapeCast S1x256x1024
    (addf (matmul dot_S256x256_S256x1024_S256x1024_1_0_0_1_n_n none tri (mat v) (constant S256x1024 .f32 0x00000000#32))
      (broadcastTo S256x1024 carry broadcasts_S1x1024_S256x1024)) shapeCasts_S256x1024_S1x256x1024

/-- The carried row after a chunk `v`. -/
def nextCarry (carry : FVec F S1x1024 .f32) (v : Vec F S1x256x1024 .f32) : FVec F S1x1024 .f32 :=
  addf carry (shapeCast S1x1024 (multiReduction .add [0] S1024 (mat v) 0x00000000#32 reduces_S256x1024_S1024 (.inl rfl) rfl)
    shapeCasts_S1024_S1x1024)

/-! ## The memrefs -/

/-- `n` rows of 1024. -/
abbrev SR (n : ℕ) : Shape := ⟨2, ![n, 1024]⟩
/-- The same as a slab of one slot. -/
abbrev SL (n : ℕ) : Shape := ⟨3, ![1, n, 1024]⟩
/-- A ring of `R` slots. -/
abbrev SB (R : ℕ) : Shape := ⟨3, ![R, 2048, 1024]⟩

abbrev xM : Memref sig .tc .hbm S16384x1024 .f32 := Memref.whole main_v0
abbrev oM : Memref sig .tc .hbm S16384x1024 .f32 := Memref.whole main_v1
abbrev inM : Memref sig .tc .vmem (SB 4) .f32 := Memref.whole cc0_scratch0
abbrev outM : Memref sig .tc .vmem (SB 3) .f32 := Memref.whole cc0_scratch1

theorem inb_rows {st n : ℕ} (h : st + n ≤ 16384) : ∀ a, (![st, 0] : Fin 2 → ℕ) a + (SR n).size a ≤ S16384x1024.size a := by
  intro a; fin_cases a
  · exact h
  · exact Nat.le_refl 1024

theorem inb_slab {R s r n : ℕ} (hs : s < R) (h : r + n ≤ 2048) :
    ∀ a, (![s, r, 0] : Fin 3 → ℕ) a + (SL n).size a ≤ (SB R).size a := by
  intro a; fin_cases a
  · exact hs
  · exact h
  · exact Nat.le_refl 1024

theorem squeezes_slab (n : ℕ) : (SL n).Squeezes (SR n) := by
  simp [Shape.Squeezes, Shape.dropsOnes]

theorem inb_sem {R s : ℕ} (hs : s < R) : ∀ a, (![s] : Fin 1 → ℕ) a + S1.size a ≤ (⟨1, ![R]⟩ : Shape).size a := by
  intro a; fin_cases a; exact hs

/-- Rows `st` to `st + n` of an array in HBM. -/
abbrev rows (M : Memref sig .tc .hbm S16384x1024 .f32) (st n : ℕ) (h : st + n ≤ 16384) : Memref sig .tc .hbm (SR n) .f32 :=
  M.slice (Rect.unit (s := S16384x1024) ![st, 0] (SR n).size (inb_rows h)) (fun _ => rfl)

/-- The first `n` rows of slot `s` of a ring. -/
abbrev slab {R : ℕ} (M : Memref sig .tc .vmem (SB R) .f32) (s n : ℕ) (hs : s < R) (h : n ≤ 2048) : Memref sig .tc .vmem (SR n) .f32 :=
  (M.slice (Rect.unit (s := SB R) ![s, 0, 0] (SL n).size (inb_slab hs (by omega))) (fun _ => rfl)).squeeze (SR n) (squeezes_slab n)

/-- The rectangle of chunk `c` of slot `s`. -/
abbrev chunkRect (R s c : ℕ) (hs : s < R) (hc : c < 8) : Rect (SB R) :=
  Rect.unit (s := SB R) ![s, 256 * c, 0] S1x256x1024.size (inb_slab (n := 256) hs (by omega))

/-- The DMA semaphore of read slot `s`. -/
abbrev rsem (s : ℕ) (hs : s < 4) : DmaSem sig :=
  ((cc0_scratch2.slice (Rect.unit (s := S4) ![s] S1.size (inb_sem hs))).squeeze S_ squeezes_S1_S_).sem

/-- The DMA semaphore of write slot `s`. -/
abbrev wsem (s : ℕ) (hs : s < 3) : DmaSem sig :=
  ((cc0_scratch3.slice (Rect.unit (s := S3) ![s] S1.size (inb_sem hs))).squeeze S_ squeezes_S1_S_).sem

theorem mod4_lt (t : ℕ) : t % 4 < 4 := Nat.mod_lt _ (by omega)
theorem mod3_lt (t : ℕ) : t % 3 < 3 := Nat.mod_lt _ (by omega)

/-- Tile `t` of the operand, of the result, and its slots. -/
abbrev xT (t : ℕ) : Memref sig .tc .hbm (SR (sched t)) .f32 := rows xM (start t) (sched t) (start_le t)
abbrev oT (t : ℕ) : Memref sig .tc .hbm (SR (sched t)) .f32 := rows oM (start t) (sched t) (start_le t)
abbrev inT (t : ℕ) : Memref sig .tc .vmem (SR (sched t)) .f32 := slab inM (t % 4) (sched t) (mod4_lt t) (sched_le t)
abbrev outT (t : ℕ) : Memref sig .tc .vmem (SR (sched t)) .f32 := slab outM (t % 3) (sched t) (mod3_lt t) (sched_le t)
abbrev rS (t : ℕ) : DmaSem sig := rsem (t % 4) (mod4_lt t)
abbrev wS (t : ℕ) : DmaSem sig := wsem (t % 3) (mod3_lt t)

/-! ## The program -/

/-- The effects of a kernel body. -/
abbrev Eff (F : FTy → Type) [FloatOps F] : Type → Type := TpuEff nD τ sig (Elt F) Λ₀ .tc

/-- Start reading tile `t`. -/
def rdStart (t : ℕ) : Prog (Eff F) PUnit :=
  Prog.lift (.enqueueDma (xT t) (.here (inT t)) (.dma (rS t)) (View.wordExact_bits rfl) ((View.wordExact_bits rfl).reshape _ _) ⟨Or.inl rfl, trivial⟩)

/-- Wait for tile `t` to be read. -/
def rdWait (t : ℕ) : Prog (Eff F) PUnit :=
  Prog.lift (.waitDma2 (rS t) (xT t) (inT t) (View.wordExact_bits rfl) ((View.wordExact_bits rfl).reshape _ _))

/-- Start writing tile `t`. -/
def wrStart (t : ℕ) : Prog (Eff F) PUnit :=
  Prog.lift (.enqueueDma (outT t) (.here (oT t)) (.dma (wS t)) ((View.wordExact_bits rfl).reshape _ _) (View.wordExact_bits rfl) ⟨Or.inl rfl, trivial⟩)

/-- Wait for tile `t` to be written. -/
def wrWait (t : ℕ) : Prog (Eff F) PUnit :=
  Prog.lift (.waitDma2 (wS t) (outT t) (oT t) ((View.wordExact_bits rfl).reshape _ _) (View.wordExact_bits rfl))

/-- Scan chunk `c` of slot `s` into slot `w`: the carried row after it. -/
def chunk (s w c : ℕ) (hs : s < 4) (hw : w < 3) (hc : c < 8) (carry : FVec F S1x1024 .f32) : Prog (Eff F) (FVec F S1x1024 .f32) := do
  let v : Vec F S1x256x1024 .f32 ← Prog.lift (.load inM (chunkRect 4 s c hs hc).toLoadRect (View.loadsAt_vmem h_S1x256x1024))
  let _ ← Prog.lift (.load outM (chunkRect 3 w c hw hc).toLoadRect (View.loadsAt_vmem h_S1x256x1024))
  Prog.lift (.store outM (chunkRect 3 w c hw hc) (outChunk carry v) Finset.univ (View.stores_vmem_bits_univ h_S1x256x1024 rfl) (.inl rfl))
  pure (nextCarry carry v)

/-- Scan `n` chunks from chunk `c` on. -/
def chunks (s w : ℕ) (hs : s < 4) (hw : w < 3) : (n c : ℕ) → c + n ≤ 8 → FVec F S1x1024 .f32 → Prog (Eff F) (FVec F S1x1024 .f32)
  | 0, _, _, carry => pure carry
  | n + 1, c, h, carry => chunk s w c hs hw (by omega) carry >>= chunks s w hs hw n (c + 1) (by omega)

/-- Wait for the write that tile `t`'s output slot was last lent to, if there was one. -/
def wrPrev (t : ℕ) : Prog (Eff F) PUnit := if 3 ≤ t then wrWait (t - 3) else pure ⟨⟩

/-- Start reading the tile that takes tile `t`'s input slot next, if there is one. -/
def rdNext (t : ℕ) : Prog (Eff F) PUnit := if t + 4 < 12 then rdStart (t + 4) else pure ⟨⟩

/-- Tile `t`: wait for its rows and for its output slot, scan it, start writing it and start the next read. -/
def tile (t : ℕ) (carry : FVec F S1x1024 .f32) : Prog (Eff F) (FVec F S1x1024 .f32) := do
  rdWait t
  wrPrev t
  let carry' ← chunks (t % 4) (t % 3) (mod4_lt t) (mod3_lt t) (sched t / 256) 0 (chunks_le t)
    (if start t % 4096 = 0 then zeroRow else carry)
  wrStart t
  rdNext t
  pure carry'

/-- `n` tiles from tile `t` on. -/
def tiles : (n t : ℕ) → FVec F S1x1024 .f32 → Prog (Eff F) PUnit
  | 0, _, _ => pure ⟨⟩
  | n + 1, t, carry => tile t carry >>= tiles n (t + 1)

/-- The whole body. -/
def body : Prog (Eff F) PUnit := do
  rdStart 0
  rdStart 1
  rdStart 2
  rdStart 3
  tiles 12 0 zeroRow
  wrWait 9
  wrWait 10
  wrWait 11

set_option maxRecDepth 65536 in
/-- The printed body is that program. -/
theorem body_eq (t : Fin cfg0.N) : bodyAt0 (F := F) t = body := by
  chain_rfl

end Cert.KernelIdeal.Scan

end
-- ==== Proof.Spec.lean ====
/-
  What the result array holds, as a function of the operand's rows: chunk by chunk, with the carried row.
-/
module

public import proofs.«01_k».proof.Proof.Program
public import Idealize.ShloMosaic.Lib.ValueLayout

@[expose] public section

noncomputable section

namespace Cert.KernelIdeal.Scan

open Cert.KernelIdeal Cert.KernelIdeal.Gen
open Idealize.ShloMosaic Idealize.ShloMosaic.TcCoe
open Idealize.SL Idealize.SL.Sem Idealize.ShloMosaic.ValueIdx

variable {F : FTy → Type} [FloatOps F]

/-- The index of row `r`, column `c` of the array (row counted modulo 16384). -/
def at2 (r : ℕ) (c : Fin 1024) : S16384x1024.Idx := ix2 (Fin.ofNat 16384 r) c

/-- Chunk `k` of the operand: rows `256 k` to `256 k + 256`. -/
def xchunk (X : Vec F S16384x1024 .f32) (k : ℕ) : Vec F S1x256x1024 .f32 :=
  fun j => X (at2 (256 * k + (j 1).val) (j 2))

/-- The row carried out of chunk `k - 1`. -/
def carryAt (X : Vec F S16384x1024 .f32) : ℕ → FVec F S1x1024 .f32
  | 0 => zeroRow
  | k + 1 => nextCarry (if k % 16 = 0 then zeroRow else carryAt X k) (xchunk X k)

/-- The row chunk `k` starts from: zeros at the start of a batch. -/
def carryIn (X : Vec F S16384x1024 .f32) (k : ℕ) : FVec F S1x1024 .f32 :=
  if k % 16 = 0 then zeroRow else carryAt X k

theorem carryAt_succ (X : Vec F S16384x1024 .f32) (k : ℕ) : carryAt X (k + 1) = nextCarry (carryIn X k) (xchunk X k) := rfl

/-- The result: at row `r`, what chunk `r / 256` leaves in its row `r % 256`. -/
def result (X : Vec F S16384x1024 .f32) : Vec F S16384x1024 .f32 :=
  fun i => outChunk (carryIn X ((i 0).val / 256)) (xchunk X ((i 0).val / 256))
    (ix3 (0 : Fin 1) (Fin.ofNat 256 (i 0).val) (i 1))

/-- Row `256 k + r` of the result. -/
theorem result_at (X : Vec F S16384x1024 .f32) (k : ℕ) (r : Fin 256) (c : Fin 1024) (h : k < 64) :
    result X (at2 (256 * k + r.val) c) = outChunk (carryIn X k) (xchunk X k) (ix3 (0 : Fin 1) r c) := by
  have h0 : ((at2 (256 * k + r.val) c) 0).val = 256 * k + r.val :=
    Nat.mod_eq_of_lt (by have := r.isLt; omega)
  have hk : (256 * k + r.val) / 256 = k := by have := r.isLt; omega
  have hr : Fin.ofNat 256 (256 * k + r.val) = r := by
    apply Fin.ext; show (256 * k + r.val) % 256 = r.val; have := r.isLt; omega
  unfold result
  rw [h0, hk, hr]; rfl

/-! ## Where the schedule puts the chunks -/

/-- A tile starts at a whole chunk. -/
theorem start_chunk (t : ℕ) : 256 * (start t / 256) = start t := by
  unfold start; split <;> rfl

/-- The tiles follow each other. -/
theorem start_succ (t : ℕ) : start (t + 1) = start t + sched t := by
  rcases Nat.lt_or_ge t 12 with h | h
  · interval_cases t <;> rfl
  · obtain ⟨u, rfl⟩ : ∃ u, t = u + 12 := ⟨t - 12, by omega⟩
    rfl

/-- No chunk of a tile after its first starts a batch. -/
theorem mid_chunk (t c : ℕ) (hc : 0 < c) (h : c < sched t / 256) : (start t / 256 + c) % 16 ≠ 0 := by
  rcases Nat.lt_or_ge t 12 with ht | ht
  · interval_cases t <;> simp only [sched, start] at h ⊢ <;> omega
  · obtain ⟨u, rfl⟩ : ∃ u, t = u + 12 := ⟨t - 12, by omega⟩
    rw [show sched (u + 12) = 0 from rfl] at h; omega

/-- A tile starts a batch exactly at a multiple of sixteen chunks. -/
theorem first_chunk (t : ℕ) : start t % 4096 = 0 ↔ start t / 256 % 16 = 0 := by
  have := start_chunk t; omega

/-- A tile has a chunk. -/
theorem sched_pos (t : ℕ) (h : t < 12) : 0 < sched t / 256 := by
  interval_cases t <;> decide

/-- The carried rows through a tile of chunks: what chunk `c` gets and what the tile leaves. -/
structure Carries (X : Vec F S16384x1024 .f32) (k n c : ℕ) (carry : FVec F S1x1024 .f32) : Prop where
  here : c < n → carry = carryIn X (k + c)
  past : 0 < c → carry = carryAt X (k + c)

/-- A tile's first chunk gets the row the batch has reached. -/
theorem Carries.first (X : Vec F S16384x1024 .f32) (t : ℕ) :
    Carries X (start t / 256) (sched t / 256) 0 (if start t % 4096 = 0 then zeroRow else carryAt X (start t / 256)) where
  here _ := by unfold carryIn; simp only [first_chunk, Nat.add_zero]
  past h := absurd h (Nat.lt_irrefl 0)

/-- Each chunk hands the next the row it gets. -/
theorem Carries.step {X : Vec F S16384x1024 .f32} {t c : ℕ} {carry : FVec F S1x1024 .f32} (hc : c < sched t / 256)
    (h : Carries X (start t / 256) (sched t / 256) c carry) :
    Carries X (start t / 256) (sched t / 256) (c + 1) (nextCarry carry (xchunk X (start t / 256 + c))) := by
  have e : nextCarry carry (xchunk X (start t / 256 + c)) = carryAt X (start t / 256 + (c + 1)) := by
    rw [h.here hc]; rfl
  refine ⟨fun h' => ?_, fun _ => e⟩
  rw [e]; unfold carryIn
  rw [if_neg (mid_chunk t (c + 1) (Nat.succ_pos _) h')]

end Cert.KernelIdeal.Scan

end
-- ==== Proof.Geometry.lean ====
/-
  Where the kernel's slices lie: a tile's rows in the arrays in HBM, a tile's and a chunk's rows in the two rings.
-/
module

public import proofs.«01_k».proof.Proof.Spec
public import Idealize.ShloMosaic.Lib.Pipeline.ValueKit

@[expose] public section

noncomputable section

namespace Cert.KernelIdeal.Scan

open Cert.KernelIdeal Cert.KernelIdeal.Gen
open Idealize.ShloMosaic Idealize.ShloMosaic.TcCoe
open Idealize.SL Idealize.SL.Sem Idealize.ShloMosaic.ValueIdx

variable {F : FTy → Type} [FloatOps F]

/-- Row `r`, column `c` of slot `s` of a ring. -/
def at3 {R : ℕ} (s : ℕ) (hs : s < R) (r : ℕ) (c : Fin 1024) : (SB R).Idx := ValueIdx.ix3 ⟨s, hs⟩ (Fin.ofNat 2048 r) c

/-- Two indices of the array with the same row and column are equal. -/
theorem ext2 {i j : S16384x1024.Idx} (h0 : (i 0).val = (j 0).val) (h1 : (i 1).val = (j 1).val) : i = j := by
  funext a; fin_cases a
  · exact Fin.ext h0
  · exact Fin.ext h1

/-- Two indices of a ring with the same slot, row and column are equal. -/
theorem ext3 {R : ℕ} {i j : (SB R).Idx} (h0 : (i 0).val = (j 0).val) (h1 : (i 1).val = (j 1).val) (h2 : (i 2).val = (j 2).val) :
    i = j := by
  funext a; fin_cases a
  · exact Fin.ext h0
  · exact Fin.ext h1
  · exact Fin.ext h2

theorem at2_row {r : ℕ} (c : Fin 1024) (h : r < 16384) : ((at2 r c) 0).val = r := Nat.mod_eq_of_lt h
theorem at3_row {R s : ℕ} (hs : s < R) {r : ℕ} (c : Fin 1024) (h : r < 2048) : ((at3 s hs r c) 1).val = r := Nat.mod_eq_of_lt h

/-! ## The rectangles -/

/-- The rows `st` to `st + n`, placed. -/
theorem rows_emb {st n : ℕ} (h : st + n ≤ 16384) (j : (SR n).Idx) :
    (Rect.unit (s := S16384x1024) ![st, 0] (SR n).size (inb_rows h)).emb j = at2 (st + (j 0).val) (j 1) := by
  have hj : (j 0).val < n := (j 0).isLt
  have e := fun a => ValueKit.rect_emb_unit_val (s := S16384x1024) ![st, 0] (SR n).size (inb_rows h) j a
  have hr : st + (j 0).val < 16384 := by omega
  exact ext2 ((e 0).trans (at2_row (j 1) hr).symm) ((e 1).trans (Nat.zero_add _))

/-- Rows `r` to `r + n` of slot `s`, placed. -/
theorem slab_emb {R s r n : ℕ} (hs : s < R) (h : r + n ≤ 2048) (j : (SL n).Idx) :
    (Rect.unit (s := SB R) ![s, r, 0] (SL n).size (inb_slab hs h)).emb j = at3 s hs (r + (j 1).val) (j 2) := by
  have hj : (j 1).val < n := (j 1).isLt
  have h0 : (j 0).val < 1 := (j 0).isLt
  have e := fun a => ValueKit.rect_emb_unit_val (s := SB R) ![s, r, 0] (SL n).size (inb_slab hs h) j a
  have hr : r + (j 1).val < 2048 := by omega
  refine ext3 ((e 0).trans ?_) ((e 1).trans (at3_row hs (j 2) hr).symm) ((e 2).trans (Nat.zero_add _))
  show s + (j 0).val = s
  omega

/-- Which elements the rows `st` to `st + n` are. -/
theorem mem_rows {st n : ℕ} (h : st + n ≤ 16384) (i : S16384x1024.Idx) :
    i ∈ (Rect.unit (s := S16384x1024) ![st, 0] (SR n).size (inb_rows h)).set ↔ st ≤ (i 0).val ∧ (i 0).val < st + n := by
  rw [Rect.mem_set_unit]
  refine ⟨fun hh => hh 0, fun hh a => ?_⟩
  fin_cases a
  · exact hh
  · exact ⟨Nat.zero_le _, by show (i 1).val < 0 + 1024; have := (i 1).isLt; simpa using this⟩

/-- Which elements rows `r` to `r + n` of slot `s` are. -/
theorem mem_slab {R s r n : ℕ} (hs : s < R) (h : r + n ≤ 2048) (i : (SB R).Idx) :
    i ∈ (Rect.unit (s := SB R) ![s, r, 0] (SL n).size (inb_slab hs h)).set
      ↔ (i 0).val = s ∧ r ≤ (i 1).val ∧ (i 1).val < r + n := by
  rw [Rect.mem_set_unit]
  refine ⟨fun hh => ⟨?_, hh 1⟩, fun hh a => ?_⟩
  · have := hh 0
    have h1 : s ≤ (i 0).val := this.1
    have h2 : (i 0).val < s + 1 := this.2
    omega
  · fin_cases a
    · exact ⟨Nat.le_of_eq hh.1.symm, by show (i 0).val < s + 1; omega⟩
    · exact hh.2
    · exact ⟨Nat.zero_le _, by show (i 2).val < 0 + 1024; have := (i 2).isLt; simpa using this⟩

/-! ## The elements of the slices -/

/-- The rows of an array below `a`, and from `a` on. -/
def below (a : ℕ) : Finset S16384x1024.Idx := Finset.univ.filter fun i => (i 0).val < a
def from' (a : ℕ) : Finset S16384x1024.Idx := Finset.univ.filter fun i => a ≤ (i 0).val
/-- The rows from `a` to `b`. -/
def between (a b : ℕ) : Finset S16384x1024.Idx := Finset.univ.filter fun i => a ≤ (i 0).val ∧ (i 0).val < b
/-- The elements of slot `s` of a ring. -/
def slot (R s : ℕ) : Finset (SB R).Idx := Finset.univ.filter fun i => (i 0).val = s

theorem xT_set (t : ℕ) : (xT t).view.set = between (start t) (start (t + 1)) := by
  rw [start_succ]
  show ((View.whole main_v0).slice _).set = _
  rw [View.set_slice_whole]
  ext i; rw [between, Finset.mem_filter]
  exact (mem_rows (start_le t) i).trans (by simp)

theorem oT_set (t : ℕ) : (oT t).view.set = between (start t) (start (t + 1)) := by
  rw [start_succ]
  show ((View.whole main_v1).slice _).set = _
  rw [View.set_slice_whole]
  ext i; rw [between, Finset.mem_filter]
  exact (mem_rows (start_le t) i).trans (by simp)

theorem inT_set (t : ℕ) : (inT t).view.set ⊆ slot 4 (t % 4) := by
  rw [show (inT t).view.set = ((View.whole cc0_scratch0).slice _).set from View.set_reshape _ _, View.set_slice_whole]
  intro i hi
  exact Finset.mem_filter.2 ⟨Finset.mem_univ _, ((mem_slab (mod4_lt t) (by have := sched_le t; omega) i).1 hi).1⟩

theorem outT_set (t : ℕ) : (outT t).view.set ⊆ slot 3 (t % 3) := by
  rw [show (outT t).view.set = ((View.whole cc0_scratch1).slice _).set from View.set_reshape _ _, View.set_slice_whole]
  intro i hi
  exact Finset.mem_filter.2 ⟨Finset.mem_univ _, ((mem_slab (mod3_lt t) (by have := sched_le t; omega) i).1 hi).1⟩

theorem in_chunk_set {s c : ℕ} (hs : s < 4) (hc : c < 8) : (inM.access (chunkRect 4 s c hs hc)).set ⊆ slot 4 s := by
  rw [show (inM.access (chunkRect 4 s c hs hc)).set = ((View.whole cc0_scratch0).slice _).set from rfl, View.set_slice_whole]
  intro i hi
  exact Finset.mem_filter.2 ⟨Finset.mem_univ _, ((mem_slab (n := 256) hs (by omega) i).1 hi).1⟩

theorem out_chunk_set {s c : ℕ} (hs : s < 3) (hc : c < 8) : (outM.access (chunkRect 3 s c hs hc)).set ⊆ slot 3 s := by
  rw [show (outM.access (chunkRect 3 s c hs hc)).set = ((View.whole cc0_scratch1).slice _).set from rfl, View.set_slice_whole]
  intro i hi
  exact Finset.mem_filter.2 ⟨Finset.mem_univ _, ((mem_slab (n := 256) hs (by omega) i).1 hi).1⟩

/-! ## Reads and writes through the slices -/

/-- A tile's rows of the operand. -/
theorem xT_read (X : Vec F S16384x1024 .f32) (t : ℕ) (j : (SR (sched t)).Idx) :
    (xT t).view.read (Elt F) X j = X (at2 (start t + (j 0).val) (j 1)) :=
  congrArg X (rows_emb (start_le t) j)

theorem oT_emb (t : ℕ) (j : (SR (sched t)).Idx) : (oT t).view.emb j = at2 (start t + (j 0).val) (j 1) :=
  rows_emb (start_le t) j

/-- A slot's rows under a squeezed index. -/
theorem squeeze_emb {R s n : ℕ} (hs : s < R) (h : n ≤ 2048) (j : (SR n).Idx) :
    (Rect.unit (s := SB R) ![s, 0, 0] (SL n).size (inb_slab hs (by omega))).emb (Shape.reshapeEquiv (squeezes_slab n).numel_eq j)
      = at3 s hs (j 0).val (j 1) := by
  obtain ⟨r, c, rfl⟩ : ∃ (r : Fin n) (c : Fin 1024), j = ValueIdx.ix2 r c := ⟨j 0, j 1, ValueIdx.eq_ix2 j⟩
  rw [reshapeEquiv_ix2_1ab, slab_emb hs (by omega)]
  exact congrArg (fun k => at3 s hs k c) (Nat.zero_add r.val)

theorem inT_emb (t : ℕ) (j : (SR (sched t)).Idx) : (inT t).view.emb j = at3 (t % 4) (mod4_lt t) (j 0).val (j 1) :=
  squeeze_emb (mod4_lt t) (sched_le t) j

theorem outT_read (g : Vec F (SB 3) .f32) (t : ℕ) (j : (SR (sched t)).Idx) :
    (outT t).view.read (Elt F) g j = g (at3 (t % 3) (mod3_lt t) (j 0).val (j 1)) :=
  congrArg g (squeeze_emb (mod3_lt t) (sched_le t) j)

/-- What a tile's transfer leaves in its input slot. -/
theorem inT_write (f : Vec F (SB 4) .f32) (t : ℕ) (w : Vec F (SR (sched t)) .f32) (r : ℕ) (h : r < sched t) (c : Fin 1024) :
    (inT t).view.write (Elt F) f w Finset.univ (at3 (t % 4) (mod4_lt t) r c) = w (ValueIdx.ix2 ⟨r, h⟩ c) := by
  have e := View.write_emb_of_mem (v := (inT t).view) (Val := Elt F) f w (Finset.mem_univ (ValueIdx.ix2 ⟨r, h⟩ c))
  rw [inT_emb] at e
  exact e

/-- What a tile's transfer leaves in the result. -/
theorem oT_write (o : Vec F S16384x1024 .f32) (t : ℕ) (w : Vec F (SR (sched t)) .f32) (j : (SR (sched t)).Idx) :
    (oT t).view.write (Elt F) o w Finset.univ (at2 (start t + (j 0).val) (j 1)) = w j := by
  have e := View.write_emb_of_mem (v := (oT t).view) (Val := Elt F) o w (Finset.mem_univ j)
  rw [oT_emb] at e
  exact e

/-- A chunk read from an input slot. -/
theorem in_chunk_read (f : Vec F (SB 4) .f32) {s c : ℕ} (hs : s < 4) (hc : c < 8) (j : S1x256x1024.Idx) :
    (inM.access (chunkRect 4 s c hs hc)).read (Elt F) f j = f (at3 s hs (256 * c + (j 1).val) (j 2)) :=
  congrArg f (slab_emb (n := 256) hs (by omega) j)

/-- A chunk's rows after the chunk is stored. -/
theorem out_chunk_write (g : Vec F (SB 3) .f32) {s c : ℕ} (hs : s < 3) (hc : c < 8) (p : Vec F S1x256x1024 .f32)
    (r : Fin 256) (col : Fin 1024) :
    (outM.access (chunkRect 3 s c hs hc)).write (Elt F) g p Finset.univ (at3 s hs (256 * c + r.val) col)
      = p (ValueIdx.ix3 (0 : Fin 1) r col) := by
  have e := View.write_emb_of_mem (v := outM.access (chunkRect 3 s c hs hc)) (Val := Elt F) g p
    (Finset.mem_univ (ValueIdx.ix3 (0 : Fin 1) r col))
  rw [show (outM.access (chunkRect 3 s c hs hc)).emb (ValueIdx.ix3 (0 : Fin 1) r col) = at3 s hs (256 * c + r.val) col from
    slab_emb (n := 256) hs (by omega) _] at e
  exact e

/-- The rows before the chunk keep what they held. -/
theorem out_chunk_keep (g : Vec F (SB 3) .f32) {s c : ℕ} (hs : s < 3) (hc : c < 8) (p : Vec F S1x256x1024 .f32)
    (r : ℕ) (h : r < 256 * c) (col : Fin 1024) :
    (outM.access (chunkRect 3 s c hs hc)).write (Elt F) g p Finset.univ (at3 s hs r col) = g (at3 s hs r col) := by
  refine View.write_of_not_mem (v := outM.access (chunkRect 3 s c hs hc)) (Val := Elt F) g p Finset.univ fun hi => ?_
  rw [View.setOn_univ, show (outM.access (chunkRect 3 s c hs hc)).set = ((View.whole cc0_scratch1).slice _).set from rfl,
    View.set_slice_whole] at hi
  have := ((mem_slab (n := 256) hs (by omega) _).1 hi).2.1
  rw [at3_row _ _ (by omega)] at this
  omega

end Cert.KernelIdeal.Scan

end
-- ==== Proof.Steps.lean ====
/-
  What each step of the program does to the memory: starting a read, waiting for it, starting a write, waiting for it.
-/
module

public import proofs.«01_k».proof.Proof.Geometry
public import Idealize.ShloMosaic.Lib.Tactic
public import Idealize.ShloMosaic.Lib.Transfers

@[expose] public section

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- The resource algebra: the pipeline library's beside the counters the transfers use. -/
abbrev UU (nD : Nat) (τ : Topo) : Type := UR sig nD τ × Counters

local notation "𝕄" => MT nD τ sig Unit (Elt F) ℕ (UU nD τ) ℕ

/-! ## The pieces of memory -/

/-- Elements `S` of the operand, of the result, of the input ring, of the output ring, at given contents. -/
abbrev xAt (c : Dev nD) (S : Finset S16384x1024.Idx) (X : Vec F S16384x1024 .f32) : sProp 𝕄 :=
  xM.view.loc (c : Thread nD τ) ↦[S]{fullShare} X
abbrev oAt (c : Dev nD) (S : Finset S16384x1024.Idx) (X : Vec F S16384x1024 .f32) : sProp 𝕄 :=
  oM.view.loc (c : Thread nD τ) ↦[S]{fullShare} X
abbrev inAt (c : Dev nD) (S : Finset (SB 4).Idx) (f : Vec F (SB 4) .f32) : sProp 𝕄 :=
  inM.view.loc (c : Thread nD τ) ↦[S]{fullShare} f
abbrev outAt (c : Dev nD) (S : Finset (SB 3).Idx) (f : Vec F (SB 3) .f32) : sProp 𝕄 :=
  outM.view.loc (c : Thread nD τ) ↦[S]{fullShare} f

/-- What the core owes: nothing, whatever it has waited for. -/
abbrev owesNone (c : Dev nD) : sProp 𝕄 := iprop(∃ W, owes (c : Thread nD τ) 0 W)

/-- The first `n` rows of slot `s` hold the operand's rows from `st` on. -/
def Loaded (X : Vec F S16384x1024 .f32) (s : ℕ) (hs : s < 4) (st n : ℕ) (f : Vec F (SB 4) .f32) : Prop :=
  ∀ r < n, ∀ col, f (at3 s hs r col) = X (at2 (st + r) col)

/-- The first `n` rows of slot `s` hold the result's rows from `st` on. -/
def Scanned (X : Vec F S16384x1024 .f32) (s : ℕ) (hs : s < 3) (st n : ℕ) (g : Vec F (SB 3) .f32) : Prop :=
  ∀ r < n, ∀ col, g (at3 s hs r col) = result X (at2 (st + r) col)

/-- A slot at something, its semaphore at zero. -/
def inFree (c : Dev nD) (t : ℕ) : sProp 𝕄 :=
  iprop((∃ f : Vec F (SB 4) .f32, inAt c (slot 4 (t % 4)) f) ∗ semVal ((c : Thread nD τ), .dma (rS t)) 0)
def outFree (c : Dev nD) (t : ℕ) : sProp 𝕄 :=
  iprop((∃ f : Vec F (SB 3) .f32, outAt c (slot 3 (t % 3)) f) ∗ semVal ((c : Thread nD τ), .dma (wS t)) 0)

/-- A tile's rows of the operand, with its slot holding them. -/
def inFull (c : Dev nD) (X : Vec F S16384x1024 .f32) (t : ℕ) : sProp 𝕄 :=
  iprop((∃ f : Vec F (SB 4) .f32, ⌜Loaded X (t % 4) (mod4_lt t) (start t) (sched t) f⌝ ∗ inAt c (slot 4 (t % 4)) f)
    ∗ xAt c (between (start t) (start (t + 1))) X)
/-- A tile's rows of the result, with what of its slot was lent to write them. -/
def outDone (c : Dev nD) (X : Vec F S16384x1024 .f32) (t : ℕ) : sProp 𝕄 :=
  iprop(oAt c (between (start t) (start (t + 1))) (result X)
    ∗ ∃ g : Vec F (SB 3) .f32, outAt c (outT t).view.set g)

/-- Tile `t`'s read under way. -/
def reading (c : Dev nD) (X : Vec F S16384x1024 .f32) (t : ℕ) : sProp 𝕄 :=
  Flight countersEmb (c : Thread nD τ) (.dma (rS t)) () (inT t).view.dmaCredit (inFull c X t)
/-- Tile `t`'s write under way, with the rest of its slot. -/
def writing (c : Dev nD) (X : Vec F S16384x1024 .f32) (t : ℕ) : sProp 𝕄 :=
  iprop(Flight countersEmb (c : Thread nD τ) (.dma (wS t)) () (oT t).view.dmaCredit (outDone c X t)
    ∗ ∃ g : Vec F (SB 3) .f32, outAt c (slot 3 (t % 3) \ (outT t).view.set) g)

/-- A tile has elements. -/
theorem numel_pos {t : ℕ} (h : t < 12) : 0 < (SR (sched t)).numel := by
  have h1 := sched_pos t h
  have h2 : 0 < sched t := by omega
  refine Finset.prod_pos fun a _ => ?_
  fin_cases a
  · exact h2
  · exact Nat.succ_pos _

/-- Rows of an array at `f` are the rows at `g` when these agree there. -/
theorem rows_congr {a b : ℕ} {f g : Vec F S16384x1024 .f32} (hb : b ≤ 16384)
    (h : ∀ r, a ≤ r → r < b → ∀ col, f (at2 r col) = g (at2 r col)) : ∀ i ∈ between a b, f i = g i := by
  intro i hi
  have hi := (Finset.mem_filter.1 hi).2
  have e : i = at2 (i 0).val (i 1) := ext2 (at2_row (i 1) (by omega)).symm rfl
  rw [e]
  exact h _ hi.1 hi.2 _

/-! ## Reads -/

theorem rdStart_wp (c : Dev nD) (X : Vec F S16384x1024 .f32) (t : ℕ) (h : t < 12) (Q : PUnit → sProp 𝕄) :
    iprop(inFree c t ∗ xAt c (between (start t) (start (t + 1))) X ∗ (reading c X t -∗ Q ⟨⟩))
    ⊢ wp frame (wpE (defs₀ (F := F)) Variants.none c none) Set.univ (rdStart t) Q := by
  unfold inFree rdStart
  rw [← xT_set t]
  iintro ⟨⟨⟨%f, Hin⟩, Hsem⟩, Hx, Hk⟩
  iapply (wp_dmaLocal countersEmb Variants.none (c : Thread nD τ) none (src := xT t) (dst := inT t) (sm := .dma (rS t)) ()
    (inT t).view.dmaCredit rfl (View.dmaCredit_pos _ (numel_pos h)) (inT_set t)) $$ [Hx Hin Hsem]
  · isplitl [Hx]; · iexact Hx
    isplitl [Hin]; · iexact Hin
    iexact Hsem
  iintro Hf
  sl_step
  iapply Hk
  unfold reading
  iapply (Flight_mono countersEmb (c : Thread nD τ) _) $$ Hf
  unfold inFull
  rw [← xT_set t]
  iintro ⟨Hin, Hx⟩
  isplitl [Hin]
  · iexists _
    isplitr; swap; · iexact Hin
    ipureintro
    intro r hr col
    rw [inT_write f t _ r hr col]
    exact xT_read X t (ValueIdx.ix2 ⟨r, hr⟩ col)
  iexact Hx

theorem rdWait_wp (c : Dev nD) (X : Vec F S16384x1024 .f32) (t : ℕ) (Q : PUnit → sProp 𝕄) :
    iprop(reading c X t ∗ owesNone c ∗ (iprop(inFull c X t ∗ semVal ((c : Thread nD τ), .dma (rS t)) 0 ∗ owesNone c) -∗ Q ⟨⟩))
    ⊢ wp frame (wpE (defs₀ (F := F)) Variants.none c none) Set.univ (rdWait t) Q := by
  unfold reading rdWait
  iintro ⟨Hf, ⟨%W, HO⟩, Hk⟩
  iapply (wp_waitLocal countersEmb Variants.none (c : Thread nD τ) none (sem := rS t) (srcw := xT t) (dstw := inT t) () rfl) $$ [Hf HO]
  · isplitl [Hf]; · iexact Hf
    iexact HO
  iintro ⟨HD, Hs, HO⟩
  sl_step
  iapply Hk
  isplitl [HD]; · iexact HD
  isplitl [Hs]; · iexact Hs
  iexists _; iexact HO

/-! ## Writes -/

theorem wrStart_wp (c : Dev nD) (X : Vec F S16384x1024 .f32) (t : ℕ) (h : t < 12) (g : Vec F (SB 3) .f32)
    (hg : Scanned X (t % 3) (mod3_lt t) (start t) (sched t) g) (o : Vec F S16384x1024 .f32) (Q : PUnit → sProp 𝕄) :
    iprop(outAt c (slot 3 (t % 3)) g ∗ semVal ((c : Thread nD τ), .dma (wS t)) 0
      ∗ oAt c (between (start t) (start (t + 1))) o ∗ (writing c X t -∗ Q ⟨⟩))
    ⊢ wp frame (wpE (defs₀ (F := F)) Variants.none c none) Set.univ (wrStart t) Q := by
  unfold wrStart
  have hsplit := (pointsTo_split_subset (Ix := Unit) (Name := ℕ) (U := UU nD τ) (Lvl := ℕ) (ℓ := outM.view.loc (c : Thread nD τ))
    (q := fullShare) (f := g) (outT_set t)).1
  iintro ⟨Hout, Hsem, Ho, Hk⟩
  ihave H := hsplit $$ Hout
  icases H with ⟨Hout, Hrest⟩
  iapply (wp_dmaLocal countersEmb Variants.none (c : Thread nD τ) none (src := outT t) (dst := oT t) (sm := .dma (wS t)) ()
    (oT t).view.dmaCredit rfl (View.dmaCredit_pos _ (numel_pos h)) (oT_set t).subset) $$ [Hout Ho Hsem]
  · isplitl [Hout]; · iexact Hout
    isplitl [Ho]; · iexact Ho
    iexact Hsem
  iintro Hf
  sl_step
  iapply Hk
  unfold writing
  isplitl [Hf]
  · iapply (Flight_mono countersEmb (c : Thread nD τ) _) $$ Hf
    unfold outDone
    iintro ⟨Ho, Hout⟩
    isplitl [Ho]
    · have e : ∀ i ∈ between (start t) (start (t + 1)),
          (oT t).view.write (Elt F) o (ReadAs.same.apply ((outT t).view.read (Elt F) g)) Finset.univ i = result X i := by
        refine rows_congr (by have := start_le t; have := start_succ t; omega) fun r hr hr' col => ?_
        have hs := start_succ t
        obtain ⟨k, rfl⟩ : ∃ k, r = start t + k := ⟨r - start t, by omega⟩
        have hk : k < sched t := by omega
        refine (oT_write o t _ (ValueIdx.ix2 ⟨k, hk⟩ col)).trans ?_
        exact (outT_read g t (ValueIdx.ix2 ⟨k, hk⟩ col)).trans (hg k hk col)
      iapply (Entails.of_eq (pointsTo_congr e)) $$ Ho
    iexists _; iexact Hout
  iexists _; iexact Hrest

theorem wrWait_wp (c : Dev nD) (X : Vec F S16384x1024 .f32) (t : ℕ) (Q : PUnit → sProp 𝕄) :
    iprop(writing c X t ∗ owesNone c
      ∗ (iprop(outFree c t ∗ oAt c (between (start t) (start (t + 1))) (result X) ∗ owesNone c) -∗ Q ⟨⟩))
    ⊢ wp frame (wpE (defs₀ (F := F)) Variants.none c none) Set.univ (wrWait t) Q := by
  unfold writing wrWait outFree
  have hjoin := fun (f g : Vec F (SB 3) .f32) => pointsTo_join_subset (Ix := Unit) (Val := Elt F) (Name := ℕ) (U := UU nD τ) (Lvl := ℕ) (ℓ := outM.view.loc (c : Thread nD τ))
    (q := fullShare) (f := f) (g := g) (outT_set t)
  iintro ⟨⟨Hf, ⟨%g', Hrest⟩⟩, ⟨%W, HO⟩, Hk⟩
  iapply (wp_waitLocal countersEmb Variants.none (c : Thread nD τ) none (sem := wS t) (srcw := outT t) (dstw := oT t) () rfl) $$ [Hf HO]
  · isplitl [Hf]; · iexact Hf
    iexact HO
  unfold outDone
  iintro ⟨⟨Ho, ⟨%g, Hout⟩⟩, Hs, HO⟩
  sl_step
  iapply Hk
  isplitl [Hout Hrest Hs]
  · isplitr [Hs]; swap; · iexact Hs
    iexists _
    iapply (hjoin g' g)
    isplitl [Hout]; · iexact Hout
    iexact Hrest
  isplitl [Ho]; · iexact Ho
  iexists _; iexact HO

end Cert.KernelIdeal.Scan

end
-- ==== Proof.Chunks.lean ====
/-
  Scanning a tile: chunk after chunk, the output slot comes to hold the result's rows.
-/
module

public import proofs.«01_k».proof.Proof.Steps

@[expose] public section

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (UU nD τ) ℕ

/-- A chunk loaded from a slot that holds a tile's rows is a chunk of the operand. -/
theorem load_chunk {X : Vec F S16384x1024 .f32} {t c : ℕ} (hc : c < 8) (hn : c < sched t / 256) {f : Vec F (SB 4) .f32}
    (hf : Loaded X (t % 4) (mod4_lt t) (start t) (sched t) f) :
    (inM.access (chunkRect 4 (t % 4) c (mod4_lt t) hc)).read (Elt F) f = xchunk X (start t / 256 + c) := by
  funext j
  have hj : (j 1).val < 256 := (j 1).isLt
  have h1 := start_chunk t
  have h2 := sched_chunks t
  refine (in_chunk_read f (mod4_lt t) hc j).trans ((hf _ (by omega) _).trans ?_)
  unfold xchunk
  rw [show start t + (256 * c + (j 1).val) = 256 * (start t / 256 + c) + (j 1).val by omega]

/-- Storing a chunk's result extends the rows the slot holds by the chunk's. -/
theorem store_chunk {X : Vec F S16384x1024 .f32} {t c : ℕ} (hc : c < 8) (hn : c < sched t / 256) {g : Vec F (SB 3) .f32}
    (hg : Scanned X (t % 3) (mod3_lt t) (start t) (256 * c) g) :
    Scanned X (t % 3) (mod3_lt t) (start t) (256 * (c + 1))
      ((outM.access (chunkRect 3 (t % 3) c (mod3_lt t) hc)).write (Elt F) g
        (outChunk (carryIn X (start t / 256 + c)) (xchunk X (start t / 256 + c))) Finset.univ) := by
  intro r hr col
  rcases Nat.lt_or_ge r (256 * c) with h | h
  · rw [out_chunk_keep g (mod3_lt t) hc _ r h col]
    exact hg r h col
  · have h1 := start_chunk t
    have h2 := sched_chunks t
    have h3 := start_le t
    obtain ⟨k, rfl⟩ : ∃ k, r = 256 * c + k := ⟨r - 256 * c, by omega⟩
    have hk : k < 256 := by omega
    refine (out_chunk_write g (mod3_lt t) hc _ ⟨k, hk⟩ col).trans ?_
    rw [show start t + (256 * c + k) = 256 * (start t / 256 + c) + k by omega]
    exact (result_at X (start t / 256 + c) ⟨k, hk⟩ col (by omega)).symm

/-- One chunk of tile `t`. -/
theorem chunk_wp (d : Dev nD) (X : Vec F S16384x1024 .f32) (t c : ℕ) (hc : c < 8) (hn : c < sched t / 256)
    (f : Vec F (SB 4) .f32) (hf : Loaded X (t % 4) (mod4_lt t) (start t) (sched t) f)
    (g : Vec F (SB 3) .f32) (hg : Scanned X (t % 3) (mod3_lt t) (start t) (256 * c) g)
    (carry : FVec F S1x1024 .f32) (hcarry : carry = carryIn X (start t / 256 + c)) (Q : FVec F S1x1024 .f32 → sProp 𝕄) :
    iprop(inAt d (slot 4 (t % 4)) f ∗ outAt d (slot 3 (t % 3)) g
      ∗ ((inAt d (slot 4 (t % 4)) f ∗ ∃ g' : Vec F (SB 3) .f32, ⌜Scanned X (t % 3) (mod3_lt t) (start t) (256 * (c + 1)) g'⌝
          ∗ outAt d (slot 3 (t % 3)) g') -∗ Q (nextCarry carry (xchunk X (start t / 256 + c)))))
    ⊢ wp frame (wpE (defs₀ (F := F)) Variants.none d none) Set.univ (chunk (t % 4) (t % 3) c (mod4_lt t) (mod3_lt t) hc carry) Q := by
  subst hcarry
  unfold chunk
  simp only [Prog.lift, Prog.bind_op, Prog.bind_ret, Prog.pure_eq_ret]
  iintro ⟨Hin, Hout, Hk⟩
  iapply (wp_load_rect Variants.none (d : Thread nD τ) none Set.univ (in_chunk_set (mod4_lt t) hc)) $$ Hin
  iintro Hin
  rw [load_chunk hc hn hf]
  iapply (wp_load_rect Variants.none (d : Thread nD τ) none Set.univ (out_chunk_set (mod3_lt t) hc)) $$ Hout
  iintro Hout
  iapply (wp_store Variants.none (d : Thread nD τ) none Set.univ (out_chunk_set (mod3_lt t) hc)) $$ Hout
  iintro Hout
  sl_step
  iapply Hk
  isplitl [Hin]; · iexact Hin
  iexists _
  isplitr; swap; · iexact Hout
  ipureintro
  exact store_chunk hc hn hg

/-- The chunks of tile `t` from chunk `c` on. -/
theorem chunks_wp (d : Dev nD) (X : Vec F S16384x1024 .f32) (t : ℕ) (f : Vec F (SB 4) .f32)
    (hf : Loaded X (t % 4) (mod4_lt t) (start t) (sched t) f) :
    ∀ (n c : ℕ) (h : c + n ≤ 8) (hn : c + n = sched t / 256) (carry : FVec F S1x1024 .f32)
      (hcarry : Carries X (start t / 256) (sched t / 256) c carry)
      (g : Vec F (SB 3) .f32) (hg : Scanned X (t % 3) (mod3_lt t) (start t) (256 * c) g) (Q : FVec F S1x1024 .f32 → sProp 𝕄),
    iprop(inAt d (slot 4 (t % 4)) f ∗ outAt d (slot 3 (t % 3)) g
      ∗ (∀ carry' : FVec F S1x1024 .f32, ⌜Carries X (start t / 256) (sched t / 256) (sched t / 256) carry'⌝ -∗
          (inAt d (slot 4 (t % 4)) f ∗ ∃ g' : Vec F (SB 3) .f32, ⌜Scanned X (t % 3) (mod3_lt t) (start t) (sched t) g'⌝
          ∗ outAt d (slot 3 (t % 3)) g') -∗ Q carry'))
    ⊢ wp frame (wpE (defs₀ (F := F)) Variants.none d none) Set.univ
        (chunks (t % 4) (t % 3) (mod4_lt t) (mod3_lt t) n c h carry) Q := by
  intro n
  induction n with
  | zero =>
    intro c h hn carry hcarry g hg Q
    have hc : c = sched t / 256 := by omega
    subst hc
    rw [sched_chunks] at hg
    unfold chunks
    iintro ⟨Hin, Hout, Hk⟩
    sl_step
    iapply Hk $$ %carry
    · ipureintro; exact hcarry
    isplitl [Hin]; · iexact Hin
    iexists g
    isplitr; · ipureintro; exact hg
    iexact Hout
  | succ n ih =>
    intro c h hn carry hcarry g hg Q
    have hc : c < sched t / 256 := by omega
    unfold chunks
    rw [wp_bind]
    iintro ⟨Hin, Hout, Hk⟩
    iapply (chunk_wp d X t c _ hc f hf g hg carry (hcarry.here hc))
    isplitl [Hin]; · iexact Hin
    isplitl [Hout]; · iexact Hout
    iintro ⟨Hin, ⟨%g', %hg', Hout⟩⟩
    iapply (ih (c + 1) _ (by omega) _ (hcarry.step hc) g' hg' Q)
    isplitl [Hin]; · iexact Hin
    isplitl [Hout]; · iexact Hout
    iexact Hk

end Cert.KernelIdeal.Scan

end
-- ==== Proof.Tile.lean ====
/-
  One tile, from the rings' state before it to their state after it.
-/
module

public import proofs.«01_k».proof.Proof.Chunks

@[expose] public section

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (UU nD τ) ℕ

/-! ## Cutting an array by rows -/

theorem below_between (a b : ℕ) : Disjoint (below a) (between a b) := by
  rw [Finset.disjoint_left]; intro i hi hi'
  have h1 := (Finset.mem_filter.1 hi).2
  have h2 := (Finset.mem_filter.1 hi').2.1
  omega

theorem below_union {a b : ℕ} (h : a ≤ b) : below a ∪ between a b = below b := by
  ext i
  simp only [below, between, Finset.mem_union, Finset.mem_filter, Finset.mem_univ, true_and]
  omega

theorem between_from (a b : ℕ) : Disjoint (between a b) (from' b) := by
  rw [Finset.disjoint_left]; intro i hi hi'
  have h1 := (Finset.mem_filter.1 hi).2.2
  have h2 := (Finset.mem_filter.1 hi').2
  omega

theorem from_union {a b : ℕ} (h : a ≤ b) : between a b ∪ from' b = from' a := by
  ext i
  simp only [from', between, Finset.mem_union, Finset.mem_filter, Finset.mem_univ, true_and]
  omega

theorem start_mono (t : ℕ) : start t ≤ start (t + 1) := by have := start_succ t; omega

/-- The rows before tile `t` and the tile's are the rows before the next. -/
theorem x_join (c : Dev nD) (X : Vec F S16384x1024 .f32) (t : ℕ) :
    (iprop(xAt c (below (start t)) X ∗ xAt c (between (start t) (start (t + 1))) X) : sProp 𝕄) ⊢ xAt c (below (start (t + 1))) X :=
  (pointsTo_union (below_between _ _)).2.trans (Entails.of_eq (congrArg (fun S => xAt c S X) (below_union (start_mono t))))
theorem o_join (c : Dev nD) (X : Vec F S16384x1024 .f32) (t : ℕ) :
    (iprop(oAt c (below (start t)) X ∗ oAt c (between (start t) (start (t + 1))) X) : sProp 𝕄) ⊢ oAt c (below (start (t + 1))) X :=
  (pointsTo_union (below_between _ _)).2.trans (Entails.of_eq (congrArg (fun S => oAt c S X) (below_union (start_mono t))))

/-- The rows from tile `t` on are the tile's and those from the next tile on. -/
theorem x_split (c : Dev nD) (X : Vec F S16384x1024 .f32) (t : ℕ) :
    xAt c (from' (start t)) X ⊢ (iprop(xAt c (between (start t) (start (t + 1))) X ∗ xAt c (from' (start (t + 1))) X) : sProp 𝕄) :=
  (Entails.of_eq (congrArg (fun S => xAt c S X) (from_union (start_mono t)).symm)).trans (pointsTo_union (between_from _ _)).1
theorem o_split (c : Dev nD) (X : Vec F S16384x1024 .f32) (t : ℕ) :
    oAt c (from' (start t)) X ⊢ (iprop(oAt c (between (start t) (start (t + 1))) X ∗ oAt c (from' (start (t + 1))) X) : sProp 𝕄) :=
  (Entails.of_eq (congrArg (fun S => oAt c S X) (from_union (start_mono t)).symm)).trans (pointsTo_union (between_from _ _)).1

/-! ## The rings -/

/-- The read side of tile `t`: its read under way, or, past the last tile, its slot free. -/
def inState (c : Dev nD) (X : Vec F S16384x1024 .f32) (t : ℕ) : sProp 𝕄 :=
  if t < 12 then reading c X t else inFree c t

/-- The write side that tile `t` will use: tile `t - 3`'s write under way, or, for the first three, its slot free. -/
def outState (c : Dev nD) (X : Vec F S16384x1024 .f32) (t : ℕ) : sProp 𝕄 :=
  if 3 ≤ t then writing c X (t - 3) else outFree c t

/-- A slot is free for the tile four on when it is for this one. -/
theorem inFree_next (c : Dev nD) (t : ℕ) : (inFree c (t + 4) : sProp 𝕄) = inFree c t := by
  unfold inFree
  simp only [rS, Nat.add_mod_right]

theorem outFree_next (c : Dev nD) (t : ℕ) : (outFree c (t + 3) : sProp 𝕄) = outFree c t := by
  unfold outFree
  simp only [wS, Nat.add_mod_right]

/-- Start the read of tile `t`, from the rows not yet lent. -/
theorem fetch_wp (c : Dev nD) (X : Vec F S16384x1024 .f32) (t : ℕ) (h : t < 12) (Q : PUnit → sProp 𝕄) :
    iprop(inFree c t ∗ xAt c (from' (start t)) X ∗ ((inState c X t ∗ xAt c (from' (start (t + 1))) X) -∗ Q ⟨⟩))
    ⊢ wp frame (wpE (defs₀ (F := F)) Variants.none c none) Set.univ (rdStart t) Q := by
  unfold inState
  rw [if_pos h]
  iintro ⟨Hin, Hx, Hk⟩
  ihave H := (x_split c X t) $$ Hx
  icases H with ⟨Hx, Hx'⟩
  iapply (rdStart_wp c X t h Q)
  isplitl [Hin]; · iexact Hin
  isplitl [Hx]; · iexact Hx
  iintro Hr
  iapply Hk
  isplitl [Hr]; · iexact Hr
  iexact Hx'

/-- The read started by tile `t`, if there is one. -/
theorem fetchNext_wp (c : Dev nD) (X : Vec F S16384x1024 .f32) (t : ℕ) (Q : PUnit → sProp 𝕄) :
    iprop(inFree c t ∗ xAt c (from' (start (t + 4))) X
      ∗ ((inState c X (t + 4) ∗ xAt c (from' (start (t + 5))) X) -∗ Q ⟨⟩))
    ⊢ wp frame (wpE (defs₀ (F := F)) Variants.none c none) Set.univ (rdNext t) Q := by
  unfold rdNext
  by_cases h : t + 4 < 12
  · rw [if_pos h, ← inFree_next c t]
    exact fetch_wp c X (t + 4) h Q
  · have e : ∀ s, 12 ≤ s → start s = 16384 := by
      intro s hs
      obtain ⟨u, rfl⟩ : ∃ u, s = u + 12 := ⟨s - 12, by omega⟩
      rfl
    unfold inState
    rw [if_neg h, if_neg h, ← inFree_next c t, e (t + 4) (by omega), e (t + 5) (by omega)]
    iintro ⟨Hin, Hx, Hk⟩
    sl_step
    iapply Hk
    isplitl [Hin]; · iexact Hin
    iexact Hx

/-- Wait for tile `t`'s write: the result's rows are final up to the next tile. -/
theorem retire_wp (c : Dev nD) (X : Vec F S16384x1024 .f32) (t : ℕ) (Q : PUnit → sProp 𝕄) :
    iprop(outState c X (t + 3) ∗ oAt c (below (start t)) (result X) ∗ owesNone c
      ∗ ((outFree c t ∗ oAt c (below (start (t + 1))) (result X) ∗ owesNone c) -∗ Q ⟨⟩))
    ⊢ wp frame (wpE (defs₀ (F := F)) Variants.none c none) Set.univ (wrWait t) Q := by
  unfold outState
  rw [if_pos (Nat.le_add_left 3 t), Nat.add_sub_cancel]
  iintro ⟨Hw, Ho, HO, Hk⟩
  iapply (wrWait_wp c X t Q)
  isplitl [Hw]; · iexact Hw
  isplitl [HO]; · iexact HO
  iintro ⟨Hf, Ho', HO⟩
  iapply Hk
  isplitl [Hf]; · iexact Hf
  isplitr [HO]; swap; · iexact HO
  iapply (o_join c (result X) t)
  isplitl [Ho]; · iexact Ho
  iexact Ho'

/-- The wait for an output slot by tile `t`, if there is one. -/
theorem retirePrev_wp (c : Dev nD) (X : Vec F S16384x1024 .f32) (t : ℕ) (Q : PUnit → sProp 𝕄) :
    iprop(outState c X t ∗ oAt c (below (start (t - 3))) (result X) ∗ owesNone c
      ∗ ((outFree c t ∗ oAt c (below (start (t + 1 - 3))) (result X) ∗ owesNone c) -∗ Q ⟨⟩))
    ⊢ wp frame (wpE (defs₀ (F := F)) Variants.none c none) Set.univ (wrPrev t) Q := by
  unfold wrPrev
  by_cases h : 3 ≤ t
  · obtain ⟨u, rfl⟩ : ∃ u, t = u + 3 := ⟨t - 3, by omega⟩
    rw [if_pos h, outFree_next, Nat.add_sub_cancel, show u + 3 + 1 - 3 = u + 1 by omega]
    exact retire_wp c X u Q
  · unfold outState
    rw [if_neg h, if_neg h, show t - 3 = 0 by omega, show t + 1 - 3 = 0 by omega]
    iintro ⟨Hf, Ho, HO, Hk⟩
    sl_step
    iapply Hk
    isplitl [Hf]; · iexact Hf
    isplitl [Ho]; · iexact Ho
    iexact HO

/-! ## A tile -/

/-- What holds before tile `t`: the next four reads and the last three writes under way; of the operand, the rows used
    and the rows not yet lent; of the result, the rows final and the rows not yet written. -/
def Before (c : Dev nD) (X : Vec F S16384x1024 .f32) (t : ℕ) : sProp 𝕄 :=
  iprop(inState c X t ∗ inState c X (t + 1) ∗ inState c X (t + 2) ∗ inState c X (t + 3)
    ∗ outState c X t ∗ outState c X (t + 1) ∗ outState c X (t + 2)
    ∗ xAt c (below (start t)) X ∗ xAt c (from' (start (t + 4))) X
    ∗ oAt c (below (start (t - 3))) (result X) ∗ (∃ o : Vec F S16384x1024 .f32, oAt c (from' (start t)) o)
    ∗ owesNone c)

theorem tile_wp (c : Dev nD) (X : Vec F S16384x1024 .f32) (t : ℕ) (h : t < 12) (Q : FVec F S1x1024 .f32 → sProp 𝕄) :
    iprop(Before c X t ∗ (Before c X (t + 1) -∗ Q (carryAt X (start (t + 1) / 256))))
    ⊢ wp frame (wpE (defs₀ (F := F)) Variants.none c none) Set.univ (tile t (carryAt X (start t / 256))) Q := by
  unfold Before tile
  rw [show (inState c X t : sProp 𝕄) = reading c X t from if_pos h]
  simp only [wp_bind]
  iintro ⟨⟨H0, H1, H2, H3, O0, O1, O2, Hxb, Hxf, Hob, ⟨%o, Hof⟩, HO⟩, Hk⟩
  iapply (rdWait_wp c X t)
  isplitl [H0]; · iexact H0
  isplitl [HO]; · iexact HO
  unfold inFull
  iintro ⟨⟨⟨%f, %hf, Hin⟩, Hx⟩, Hrs, HO⟩
  iapply (retirePrev_wp c X t)
  isplitl [O0]; · iexact O0
  isplitl [Hob]; · iexact Hob
  isplitl [HO]; · iexact HO
  unfold outFree
  iintro ⟨⟨⟨%g, Hout⟩, Hws⟩, Hob, HO⟩
  iapply (chunks_wp c X t f hf (sched t / 256) 0 (chunks_le t) (Nat.zero_add _) _ (Carries.first X t) g
    (fun r hr => absurd hr (Nat.not_lt_zero r)))
  isplitl [Hin]; · iexact Hin
  isplitl [Hout]; · iexact Hout
  iintro %carry' %hcarry ⟨Hin, ⟨%g', %hg, Hout⟩⟩
  ihave H := (o_split c o t) $$ Hof
  icases H with ⟨Hot, Hof⟩
  iapply (wrStart_wp c X t h g' hg o)
  isplitl [Hout]; · iexact Hout
  isplitl [Hws]; · iexact Hws
  isplitl [Hot]; · iexact Hot
  iintro Hw
  iapply (fetchNext_wp c X t)
  unfold inFree
  isplitl [Hin Hrs]
  · isplitl [Hin]; · iexists f; iexact Hin
    iexact Hrs
  isplitl [Hxf]; · iexact Hxf
  iintro ⟨H4, Hxf⟩
  sl_step
  rw [hcarry.past (sched_pos t h), show start t / 256 + sched t / 256 = start (t + 1) / 256 by
    have := start_chunk t; have := start_succ t; omega]
  iapply Hk
  isplitl [H1]; · iexact H1
  isplitl [H2]; · iexact H2
  isplitl [H3]; · iexact H3
  isplitl [H4]; · iexact H4
  isplitl [O1]; · iexact O1
  isplitl [O2]; · iexact O2
  isplitl [Hw]
  · unfold outState
    rw [if_pos (by omega : 3 ≤ t + 1 + 2), show t + 1 + 2 - 3 = t by omega]
    iexact Hw
  isplitl [Hxb Hx]
  · iapply (x_join c X t)
    isplitl [Hxb]; · iexact Hxb
    iexact Hx
  isplitl [Hxf]; · iexact Hxf
  isplitl [Hob]; · iexact Hob
  isplitl [Hof]; · iexists o; iexact Hof
  iexact HO

/-- The tiles from tile `t` to the last. -/
theorem tiles_wp (c : Dev nD) (X : Vec F S16384x1024 .f32) :
    ∀ (n t : ℕ) (h : t + n = 12) (Q : PUnit → sProp 𝕄),
    iprop(Before c X t ∗ (Before c X 12 -∗ Q ⟨⟩))
    ⊢ wp frame (wpE (defs₀ (F := F)) Variants.none c none) Set.univ (tiles n t (carryAt X (start t / 256))) Q := by
  intro n
  induction n with
  | zero =>
    intro t h Q
    obtain rfl : t = 12 := by omega
    unfold tiles
    iintro ⟨H, Hk⟩
    sl_step
    iapply Hk
    iexact H
  | succ n ih =>
    intro t h Q
    unfold tiles
    rw [wp_bind]
    iintro ⟨H, Hk⟩
    iapply (tile_wp c X t (by omega))
    isplitl [H]; · iexact H
    iintro H
    iapply (ih (t + 1) (by omega) Q)
    isplitl [H]; · iexact H
    iexact Hk

end Cert.KernelIdeal.Scan

end
-- ==== Proof.Body.lean ====
/-
  The whole body: from the operand at `X` it leaves the result array at `result X`.
-/
module

public import proofs.«01_k».proof.Proof.Tile

@[expose] public section

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (UU nD τ) ℕ

/-! ## Cutting the rings into slots -/

/-- Slots `0` to `s - 1` of a ring. -/
def slots (R s : ℕ) : Finset (SB R).Idx := Finset.univ.filter fun i => (i 0).val < s

theorem slots_disjoint (R s : ℕ) : Disjoint (slots R s) (slot R s) := by
  rw [Finset.disjoint_left]; intro i hi hi'
  have h1 := (Finset.mem_filter.1 hi).2
  have h2 := (Finset.mem_filter.1 hi').2
  omega

theorem slots_succ (R s : ℕ) : slots R s ∪ slot R s = slots R (s + 1) := by
  ext i
  simp only [slots, slot, Finset.mem_union, Finset.mem_filter, Finset.mem_univ, true_and]
  omega

theorem slots_one (R : ℕ) : slots R 1 = slot R 0 := by
  ext i
  simp only [slots, slot, Finset.mem_filter, Finset.mem_univ, true_and]
  omega

theorem slots_all (R : ℕ) : slots R R = Finset.univ := by
  ext i
  simp only [slots, Finset.mem_filter, Finset.mem_univ, true_and, iff_true]
  exact (i 0).isLt

/-- Something in each of two disjoint parts is something in both. -/
theorem in_any (c : Dev nD) (s : ℕ) :
    (iprop((∃ f : Vec F (SB 4) .f32, inAt c (slots 4 s) f) ∗ ∃ f : Vec F (SB 4) .f32, inAt c (slot 4 s) f) : sProp 𝕄)
      ⊢ iprop(∃ f : Vec F (SB 4) .f32, inAt c (slots 4 (s + 1)) f) := by
  rw [← slots_succ]
  iintro ⟨⟨%f, Hf⟩, ⟨%g, Hg⟩⟩
  iexists _
  iapply (pointsTo_join (f := f) (g := g) (slots_disjoint 4 s))
  isplitl [Hf]; · iexact Hf
  iexact Hg

theorem out_any (c : Dev nD) (s : ℕ) :
    (iprop((∃ f : Vec F (SB 3) .f32, outAt c (slots 3 s) f) ∗ ∃ f : Vec F (SB 3) .f32, outAt c (slot 3 s) f) : sProp 𝕄)
      ⊢ iprop(∃ f : Vec F (SB 3) .f32, outAt c (slots 3 (s + 1)) f) := by
  rw [← slots_succ]
  iintro ⟨⟨%f, Hf⟩, ⟨%g, Hg⟩⟩
  iexists _
  iapply (pointsTo_join (f := f) (g := g) (slots_disjoint 3 s))
  isplitl [Hf]; · iexact Hf
  iexact Hg

theorem in_cut (c : Dev nD) (s : ℕ) (f : Vec F (SB 4) .f32) :
    (inAt c (slots 4 (s + 1)) f : sProp 𝕄) ⊢ iprop(inAt c (slots 4 s) f ∗ inAt c (slot 4 s) f) := by
  rw [← slots_succ]
  exact (pointsTo_union (slots_disjoint 4 s)).1

theorem out_cut (c : Dev nD) (s : ℕ) (f : Vec F (SB 3) .f32) :
    (outAt c (slots 3 (s + 1)) f : sProp 𝕄) ⊢ iprop(outAt c (slots 3 s) f ∗ outAt c (slot 3 s) f) := by
  rw [← slots_succ]
  exact (pointsTo_union (slots_disjoint 3 s)).1

/-- The kernel's seven semaphores: the four of the reads, the three of the writes. -/
abbrev osem : Fin 7 → SemLoc sig :=
  fun | 0 => .dma 0 | 1 => .dma 1 | 2 => .dma 2 | 3 => .dma 3 | 4 => .dma 4 | 5 => .dma 5 | 6 => .dma 6

/-- The seven at zero. -/
abbrev sems0 (c : Dev nD) : sProp 𝕄 :=
  iprop(semVal ((c : Thread nD τ), osem 0) 0 ∗ semVal ((c : Thread nD τ), osem 1) 0 ∗ semVal ((c : Thread nD τ), osem 2) 0
    ∗ semVal ((c : Thread nD τ), osem 3) 0 ∗ semVal ((c : Thread nD τ), osem 4) 0 ∗ semVal ((c : Thread nD τ), osem 5) 0
    ∗ semVal ((c : Thread nD τ), osem 6) 0)

/-- Both rings free, slot by slot. -/
def ringsFree (c : Dev nD) : sProp 𝕄 :=
  iprop(inFree c 0 ∗ inFree c 1 ∗ inFree c 2 ∗ inFree c 3 ∗ outFree c 0 ∗ outFree c 1 ∗ outFree c 2)

/-- The two ring buffers at something and the semaphores at zero, cut into slots. -/
theorem rings_cut (c : Dev nD) (f : Vec F (SB 4) .f32) (g : Vec F (SB 3) .f32) :
    (iprop(inAt c Finset.univ f ∗ outAt c Finset.univ g ∗ sems0 c) : sProp 𝕄) ⊢ ringsFree c := by
  rw [← slots_all 4, ← slots_all 3]
  unfold ringsFree inFree outFree
  iintro ⟨Hi, Ho, ⟨S0, S1, S2, S3, S4, S5, S6⟩⟩
  ihave H := (in_cut c 3 f) $$ Hi
  icases H with ⟨Hi, I3⟩
  ihave H := (in_cut c 2 f) $$ Hi
  icases H with ⟨Hi, I2⟩
  ihave H := (in_cut c 1 f) $$ Hi
  icases H with ⟨I0, I1⟩
  ihave H := (out_cut c 2 g) $$ Ho
  icases H with ⟨Ho, O2⟩
  ihave H := (out_cut c 1 g) $$ Ho
  icases H with ⟨O0, O1⟩
  rw [slots_one, slots_one]
  isplitl [I0 S0]
  · isplitl [I0]; · iexists f; iexact I0
    iexact S0
  isplitl [I1 S1]
  · isplitl [I1]; · iexists f; iexact I1
    iexact S1
  isplitl [I2 S2]
  · isplitl [I2]; · iexists f; iexact I2
    iexact S2
  isplitl [I3 S3]
  · isplitl [I3]; · iexists f; iexact I3
    iexact S3
  isplitl [O0 S4]
  · isplitl [O0]; · iexists g; iexact O0
    iexact S4
  isplitl [O1 S5]
  · isplitl [O1]; · iexists g; iexact O1
    iexact S5
  isplitl [O2]; · iexists g; iexact O2
  iexact S6

/-- And joined back. -/
theorem rings_join (c : Dev nD) :
    (ringsFree c : sProp 𝕄) ⊢ iprop((∃ f : Vec F (SB 4) .f32, inAt c Finset.univ f) ∗ (∃ g : Vec F (SB 3) .f32, outAt c Finset.univ g) ∗ sems0 c) := by
  rw [← slots_all 4, ← slots_all 3]
  unfold ringsFree inFree outFree
  iintro ⟨⟨I0, S0⟩, ⟨I1, S1⟩, ⟨I2, S2⟩, ⟨I3, S3⟩, ⟨O0, S4⟩, ⟨O1, S5⟩, ⟨O2, S6⟩⟩
  isplitl [I0 I1 I2 I3]
  · iapply (in_any c 3)
    isplitr [I3]; swap; · iexact I3
    iapply (in_any c 2)
    isplitr [I2]; swap; · iexact I2
    iapply (in_any c 1)
    rw [slots_one]
    isplitl [I0]; · iexact I0
    iexact I1
  isplitl [O0 O1 O2]
  · iapply (out_any c 2)
    isplitr [O2]; swap; · iexact O2
    iapply (out_any c 1)
    rw [slots_one]
    isplitl [O0]; · iexact O0
    iexact O1
  isplitl [S0]; · iexact S0
  isplitl [S1]; · iexact S1
  isplitl [S2]; · iexact S2
  isplitl [S3]; · iexact S3
  isplitl [S4]; · iexact S4
  isplitl [S5]; · iexact S5
  iexact S6

/-! ## The body -/

theorem below_zero : below 0 = ∅ := by
  ext i; simp [below]
theorem from_zero : from' 0 = Finset.univ := by
  ext i; simp [from']
theorem below_all : below 16384 = Finset.univ := by
  ext i
  simp only [below, Finset.mem_filter, Finset.mem_univ, true_and, iff_true]
  exact (i 0).isLt

/-- From the operand whole at `X`, the result whole at something, the rings free and nothing owed, the body runs to its
    end and leaves the operand as it was, the result at `result X`, and the rings free. -/
theorem body_rings (c : Dev nD) (X o : Vec F S16384x1024 .f32) (Q : PUnit → sProp 𝕄) :
    iprop(xAt c Finset.univ X ∗ oAt c Finset.univ o ∗ ringsFree c ∗ owesNone c
      ∗ ((xAt c Finset.univ X ∗ oAt c Finset.univ (result X) ∗ ringsFree c ∗ owesNone c) -∗ Q ⟨⟩))
    ⊢ wp frame (wpE (defs₀ (F := F)) Variants.none c none) Set.univ (body (F := F)) Q := by
  have hb : (BI.emp : sProp 𝕄) ⊢ xAt c (below (start 0)) X := by
    rw [show below (start 0) = ∅ from below_zero]
    exact Entails.of_eq pointsTo_empty.symm
  have hbo : (BI.emp : sProp 𝕄) ⊢ oAt c (below (start (0 - 3))) (result X) := by
    rw [show below (start (0 - 3)) = ∅ from below_zero]
    exact Entails.of_eq pointsTo_empty.symm
  have hx : xAt c Finset.univ X ⊢ (xAt c (from' (start 0)) X : sProp 𝕄) := by
    rw [show from' (start 0) = Finset.univ from from_zero]
  have ho : oAt c Finset.univ o ⊢ (oAt c (from' (start 0)) o : sProp 𝕄) := by
    rw [show from' (start 0) = Finset.univ from from_zero]
  have hx' : xAt c (below (start 12)) X ⊢ (xAt c Finset.univ X : sProp 𝕄) := by
    rw [show below (start 12) = Finset.univ from below_all]
  have ho' : oAt c (below (start (11 + 1))) (result X) ⊢ (oAt c Finset.univ (result X) : sProp 𝕄) := by
    rw [show below (start (11 + 1)) = Finset.univ from below_all]
  have hin : ∀ t, 12 ≤ t → inState c X t ⊢ (inFree c t : sProp 𝕄) := fun t h => by
    unfold inState; rw [if_neg (by omega)]
  have hout : ∀ t, t < 3 → outFree c t ⊢ (outState c X t : sProp 𝕄) := fun t h => by
    unfold outState; rw [if_neg (by omega)]
  unfold body ringsFree
  simp only [wp_bind]
  iintro ⟨Hx, Ho, ⟨I0, I1, I2, I3, O0, O1, O2⟩, HO, Hk⟩
  ihave Hx := hx $$ Hx
  ihave Ho := ho $$ Ho
  iapply (fetch_wp c X 0 (by omega))
  isplitl [I0]; · iexact I0
  isplitl [Hx]; · iexact Hx
  iintro ⟨I0, Hx⟩
  iapply (fetch_wp c X 1 (by omega))
  isplitl [I1]; · iexact I1
  isplitl [Hx]; · iexact Hx
  iintro ⟨I1, Hx⟩
  iapply (fetch_wp c X 2 (by omega))
  isplitl [I2]; · iexact I2
  isplitl [Hx]; · iexact Hx
  iintro ⟨I2, Hx⟩
  iapply (fetch_wp c X 3 (by omega))
  isplitl [I3]; · iexact I3
  isplitl [Hx]; · iexact Hx
  iintro ⟨I3, Hx⟩
  iapply (tiles_wp c X 12 0 rfl)
  isplitr [Hk]
  · unfold Before
    isplitl [I0]; · iexact I0
    isplitl [I1]; · iexact I1
    isplitl [I2]; · iexact I2
    isplitl [I3]; · iexact I3
    isplitl [O0]; · iapply (hout 0 (by omega)); iexact O0
    isplitl [O1]; · iapply (hout 1 (by omega)); iexact O1
    isplitl [O2]; · iapply (hout 2 (by omega)); iexact O2
    isplitr; · iapply hb; iempintro
    isplitl [Hx]; · iexact Hx
    isplitr; · iapply hbo; iempintro
    isplitl [Ho]; · iexists o; iexact Ho
    iexact HO
  unfold Before
  iintro ⟨I0, I1, I2, I3, O0, O1, O2, Hxb, Hxf, Hob, Hof, HO⟩
  iapply (retire_wp c X 9)
  isplitl [O0]; · iexact O0
  isplitl [Hob]; · iexact Hob
  isplitl [HO]; · iexact HO
  iintro ⟨O0, Hob, HO⟩
  iapply (retire_wp c X 10)
  isplitl [O1]; · iexact O1
  isplitl [Hob]; · iexact Hob
  isplitl [HO]; · iexact HO
  iintro ⟨O1, Hob, HO⟩
  iapply (retire_wp c X 11)
  isplitl [O2]; · iexact O2
  isplitl [Hob]; · iexact Hob
  isplitl [HO]; · iexact HO
  iintro ⟨O2, Hob, HO⟩
  iapply Hk
  isplitl [Hxb]; · iapply hx'; iexact Hxb
  isplitl [Hob]; · iapply ho'; iexact Hob
  isplitr [HO]; swap; · iexact HO
  isplitl [I0]; · iapply (hin 12 (by omega)); iexact I0
  isplitl [I1]; · iapply (hin 13 (by omega)); iexact I1
  isplitl [I2]; · iapply (hin 14 (by omega)); iexact I2
  isplitl [I3]; · iapply (hin 15 (by omega)); iexact I3
  isplitl [O0]; · iexact O0
  isplitl [O1]; · iexact O1
  iexact O2

/-- The same with the ring buffers whole. -/
theorem body_wp (c : Dev nD) (X o : Vec F S16384x1024 .f32) (f : Vec F (SB 4) .f32) (g : Vec F (SB 3) .f32) (Q : PUnit → sProp 𝕄) :
    iprop(xAt c Finset.univ X ∗ oAt c Finset.univ o ∗ inAt c Finset.univ f ∗ outAt c Finset.univ g ∗ sems0 c ∗ owesNone c
      ∗ ((xAt c Finset.univ X ∗ oAt c Finset.univ (result X) ∗ (∃ f : Vec F (SB 4) .f32, inAt c Finset.univ f)
          ∗ (∃ g : Vec F (SB 3) .f32, outAt c Finset.univ g) ∗ sems0 c ∗ owesNone c) -∗ Q ⟨⟩))
    ⊢ wp frame (wpE (defs₀ (F := F)) Variants.none c none) Set.univ (body (F := F)) Q := by
  iintro ⟨Hx, Ho, Hin, Hout, Hs, HO, Hk⟩
  iapply (body_rings c X o Q)
  isplitl [Hx]; · iexact Hx
  isplitl [Ho]; · iexact Ho
  isplitl [Hin Hout Hs]
  · iapply (rings_cut c f g)
    isplitl [Hin]; · iexact Hin
    isplitl [Hout]; · iexact Hout
    iexact Hs
  isplitl [HO]; · iexact HO
  iintro ⟨Hx, Ho, Hr, HO⟩
  ihave H := (rings_join c) $$ Hr
  icases H with ⟨Hin, Hout, Hs⟩
  iapply Hk
  isplitl [Hx]; · iexact Hx
  isplitl [Ho]; · iexact Ho
  isplitl [Hin]; · iexact Hin
  isplitl [Hout]; · iexact Hout
  isplitl [Hs]; · iexact Hs
  iexact HO

end Cert.KernelIdeal.Scan

end
-- ==== Proof.Run.lean ====
/-
  The run of @main: the argument reshaped to rows, the kernel's region, its result reshaped back.
-/
module

public import proofs.«01_k».proof.Proof.Body
public import proofs.«01_k».proof.Proof.Gen.KernelIdeal.Launch
public import Idealize.ShloMosaic.Lib.Pipeline.Regions
public import Idealize.ShloMosaic.Lib.Pipeline.Frame

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation ucRefs)

variable {F : FTy → Type} [FloatOps F]

local notation "𝕄" => MT nD τ sig Unit (Elt F) ℕ (UU nD τ) ℕ

/-- The pipeline library's algebra is the left component of the certificate's. -/
abbrev EP : Emb (UR sig nD τ) (MT nD τ sig Unit (Elt F) ℕ (UU nD τ) ℕ) := embL

variable (m : (ℓ : Loc nD τ sig) → Buf (Elt F) ℓ) (ρ : Dev nD → PrngReg)

/-! ## The buffers along @main -/

/-- Core `c`'s buffers at launch, when the region is entered, when it is left, and at the end. -/
abbrev Va (c : Dev nD) : Valuation τ sig (Elt F) := fun b => (s₀ m ρ).mem ((c : Dev nD), b)
abbrev Vb (c : Dev nD) : Valuation τ sig (Elt F) := StableHlo.after hostOps0 (Va m ρ c)
/-- The operand as rows. -/
abbrev operand (c : Dev nD) : Vec F S16384x1024 .f32 := Vb m ρ c (Proc.devRef .tc main_v0)
def Vc (c : Dev nD) : Valuation τ sig (Elt F) := Function.update (Vb m ρ c) (Proc.devRef .tc main_v1) (result (operand m ρ c))
abbrev Vd (c : Dev nD) : Valuation τ sig (Elt F) := StableHlo.after hostOps1 (Vc m ρ c)

theorem Vc_v1 (c : Dev nD) : Vc m ρ c (Proc.devRef .tc main_v1) = result (operand m ρ c) := Function.update_self ..
theorem Vc_ne (c : Dev nD) (b : Ref sig .tc) (h : b ≠ main_v1) : Vc m ρ c (Proc.devRef .tc b) = Vb m ρ c (Proc.devRef .tc b) :=
  Function.update_of_ne (StableHlo.devRef_ne_of_ne h) _ _

/-- The four arrays of @main, held at a valuation. -/
theorem held_eq (c : Dev nD) (W : Valuation τ sig (Elt F)) :
    (StableHlo.held (c : Thread nD τ) (ucRefs τ sig) W : sProp 𝕄)
      = iprop((((c : Thread nD τ).loc main_arg0) ↦{fullShare} W (Proc.devRef .tc main_arg0)) ∗ (((c : Thread nD τ).loc main_v0) ↦{fullShare} W (Proc.devRef .tc main_v0))
          ∗ (((c : Thread nD τ).loc main_v1) ↦{fullShare} W (Proc.devRef .tc main_v1)) ∗ (((c : Thread nD τ).loc main_v2) ↦{fullShare} W (Proc.devRef .tc main_v2))) := by
  rw [← Pipeline.unscopedBufs_held]
  unfold unscopedBufs
  exact bigSep_eq_bigSepL_of_eq [main_arg0, main_v0, main_v1, main_v2] (by decide) (by decide) _

/-! ## The region -/

/-- Between the region's ends: the operand, the result (final once the body has run), the semaphores at zero, the rings
    at something. -/
def Φc (c : Dev nD) (t : Fin (cfg0.N + 1)) : sProp 𝕄 :=
  iprop(xAt c Finset.univ (operand m ρ c)
    ∗ (∃ o : Vec F S16384x1024 .f32, ⌜t.val ≠ 0 → o = result (operand m ρ c)⌝ ∗ oAt c Finset.univ o)
    ∗ sems0 c
    ∗ Pipeline.scopedRest (Ix := Unit) (Name := ℕ) (U := UU nD τ) (Lvl := ℕ) (Val := Elt F) (cfg0.spec) c)

/-- The proof data on core `c`: no window; the invariant; nothing owed. -/
def dats (_ : Fin 1) (c : Dev nD) : Dat τ (Elt F) Unit ℕ (UU nD τ) ℕ cfg0 c where
  A w := w.elim0
  after w _ := w.elim0
  Φ t := Φc m ρ c t
  q _ := fullShare
  owed _ := 0

abbrev 𝒱₀ : Variants := Variants.none

/-- The pipeline's body at a point is the kernel's. -/
theorem defs₀_row (t : Fin cfg0.N) : defs₀ (F := F) .tc cfg0.body (cfg0.bodyArgs t (cfg0.slots t)) = bodyAt0 t := rfl

/-- The body from the invariant before to the invariant after. -/
theorem body_obligation (c : Dev nD) : BodyObligation (dats m ρ 0 c) (defs₀ (F := F)) 𝒱₀ () Set.univ := fun t => by
  rw [show (Finset.univ : Finset (Fin cfg0.W)) = ∅ from rfl, bigSep_empty, bigSep_empty]
  rw [show (dats m ρ 0 c).Φ t.castSucc = Φc m ρ c t.castSucc from rfl, show (dats m ρ 0 c).Φ t.succ = Φc m ρ c t.succ from rfl]
  unfold Φc Dat.owesAt Pipeline.owesWithin
  rw [scopedRest0_eq]
  rw [show (dats m ρ 0 c).owed t.castSucc = 0 from rfl, show (dats m ρ 0 c).owed t.succ = 0 from rfl]
  rw [defs₀_row, body_eq]
  iintro ⟨⟨Hx, ⟨%o, -, Ho⟩, Hsems, ⟨%f, Hin⟩, ⟨%g, Hout⟩⟩, ⟨%W, %hW, HO⟩, -⟩
  iapply (body_wp c (operand m ρ c) o f g)
  isplitl [Hx]; · iexact Hx
  isplitl [Ho]; · iexact Ho
  isplitl [Hin]; · iexact Hin
  isplitl [Hout]; · iexact Hout
  isplitl [Hsems]; · iexact Hsems
  isplitl [HO]; · iexists W; iexact HO
  iintro ⟨Hx, Ho, Hin, Hout, Hsems, ⟨%W', HO⟩⟩
  isplitr [HO]
  · isplitl [Hx]; · iexact Hx
    isplitl [Ho]
    · iexists _
      isplitr; swap; · iexact Ho
      ipureintro; exact fun _ => rfl
    isplitl [Hsems]; · iexact Hsems
    isplitl [Hin]; · iexact Hin
    iexact Hout
  isplitl [HO]
  · iexists W'; isplitr; · ipureintro; exact fun _ _ => Or.inl trivial
    iexact HO
  iempintro

/-! ## The launch -/

/-- The layout the launch needs of the kernel's own semaphores: scoped, distinct, and no staging semaphore. -/
theorem ownSemFacts : Pipeline.OwnSemFacts (cfg0.spec) osem := by decide

/-- The launch element: the pipeline library's; no counter yet. -/
def u₀ : UU nD τ := (initOf (Pipeline.cells cfgs cellOf_inj) (Pipeline.launchToks cfgs cellOf_inj), 1)

/-- The kernel's own cells at zero, listed. -/
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6] (by decide) (by decide)

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers: the core's `owes`. -/
abbrev R (c : Dev nD) : sProp 𝕄 := iprop(∃ W, owes (c : Thread nD τ) (0 : CellTallies nD τ sig Unit) W)

/-- The reshape before the region. -/
def seg0 : Pipeline.HostSeg (Name := ℕ) (U := UU nD τ) (pcfgs (F := F)) defs₀ 𝒱₀ L lv :=
  Pipeline.HostSeg.ofOps _ _ _ _ _ (ucRefs τ sig) hostOps0 (fun op h => Pipeline.sub_ucRefs op ((List.forall_iff_forall_mem.mp hostOps0_sub) op h))
    (by intro _ h; (repeat (cases h with | head => rfl | tail _ h => ?_)); exact nomatch h) (Va m ρ) R

/-- The reshape after it. -/
def seg1 : Pipeline.HostSeg (Name := ℕ) (U := UU nD τ) (pcfgs (F := F)) defs₀ 𝒱₀ L lv :=
  Pipeline.HostSeg.ofOps _ _ _ _ _ (ucRefs τ sig) hostOps1 (fun op h => Pipeline.sub_ucRefs op ((List.forall_iff_forall_mem.mp hostOps1_sub) op h))
    (by intro _ h; (repeat (cases h with | head => rfl | tail _ h => ?_)); exact nomatch h) (Vc m ρ) R

-- unification may unfold plain definitions in a metavariable's type
set_option backward.isDefEq.respectTransparency.types false in
/-- The region: entered with the four arrays held, left with the result array at its final contents. -/
def reg0 : Pipeline.RegionSeg (pcfgs (F := F)) adm (dats m ρ) () defs₀ 𝒱₀ L lv 0 where
  win := launch0.win.to₀
  block_pos := launch0.block_pos
  stage_whole := launch0.stage_whole
  K := Fin 7
  osem := osem
  ho := ownSemFacts
  hbody c := (body_obligation m ρ c).loose
  hwaits := Pipeline.hwaits_of_owed_zero _ _ _ _ L lv 0 fun _ _ => rfl
  pre c := iprop(StableHlo.held (c : Thread nD τ) (ucRefs τ sig) (Vb m ρ c) ∗ R c)
  post c := iprop(StableHlo.held (c : Thread nD τ) (ucRefs τ sig) (Vc m ρ c) ∗ R c)
  X c := iprop(xAt c Finset.univ (operand m ρ c) ∗ (∃ o : Vec F S16384x1024 .f32, oAt c Finset.univ o) ∗ sems0 c)
  Y c := iprop(xAt c Finset.univ (operand m ρ c) ∗ oAt c Finset.univ (result (operand m ρ c)))
  Z c := iprop((((c : Thread nD τ).loc main_arg0) ↦{fullShare} Vb m ρ c (Proc.devRef .tc main_arg0)) ∗ (((c : Thread nD τ).loc main_v2) ↦{fullShare} Vb m ρ c (Proc.devRef .tc main_v2)))
  hentry c := by
    rw [held_eq, ownSems0_eq]
    iintro ⟨⟨⟨Ha, Hx, Ho, H2⟩, HO⟩, Hos, -⟩
    imodintro
    isplitr
    · unfold Dat.arrays
      rw [show (Finset.univ : Finset (Fin cfg0.W)) = ∅ from rfl, BI.bigSep_empty]; iempintro
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hx Ho Hos]
    · isplitl [Hx]; · iexact Hx
      isplitl [Ho]; · iexists _; iexact Ho
      iexact Hos
    isplitl [Ha]; · iexact Ha
    iexact H2
  hin c := by
    rw [show (dats m ρ 0 c).Φ 0 = Φc m ρ c 0 from rfl]; unfold Φc
    iintro ⟨⟨Hx, ⟨%o, Ho⟩, Hos⟩, -, Hr⟩
    isplitl [Hx]; · iexact Hx
    isplitl [Ho]
    · iexists o
      isplitr; · ipureintro; exact fun h => absurd rfl h
      iexact Ho
    isplitl [Hos] <;> iassumption
  hout c := by
    rw [ownSems0_eq, show (dats m ρ 0 c).Φ (Fin.last cfg0.N) = Φc m ρ c (Fin.last cfg0.N) from rfl]; unfold Φc
    iintro ⟨Hx, ⟨%o, %ho, Ho⟩, Hos, Hr⟩
    have hN : (Fin.last cfg0.N).val ≠ 0 := by show cfg0.N ≠ 0; rw [show cfg0.N = 1 from N_0]; exact Nat.one_ne_zero
    obtain rfl := ho hN
    isplitl [Hx Ho]
    · isplitl [Hx]; · iexact Hx
      iexact Ho
    isplitl [Hos] <;> iassumption
  hexit c := by
    rw [held_eq, Vc_v1, Vc_ne m ρ c main_arg0 (by decide), Vc_ne m ρ c main_v0 (by decide), Vc_ne m ρ c main_v2 (by decide)]
    iintro ⟨-, HO, ⟨Hx, Ho⟩, ⟨Ha, H2⟩⟩
    imodintro
    isplitr [HO]
    · isplitl [Ha]; · iexact Ha
      isplitl [Hx]; · iexact Hx
      isplitl [Ho]; · iexact Ho
      iexact H2
    · unfold Pipeline.Dat.owesAt Pipeline.owesWithin
      icases HO with ⟨%W, -, HO⟩; iexists W; iexact HO

/-- @main as its three segments. -/
abbrev segs : List (Pipeline.Seg (pcfgs (F := F)) adm (dats m ρ) () defs₀ 𝒱₀ L lv) := [.host (seg0 m ρ), .region (reg0 m ρ), .host (seg1 m ρ)]

/-- What the run leaves on core `c`. -/
abbrev Post (s : MemSt nD τ sig (Elt F)) (c : Dev nD) : Prop :=
  s.mem ((c : Thread nD τ).loc main_v2) = Vd m ρ c (Proc.devRef .tc main_v2)
    ∧ s.mem ((c : Thread nD τ).loc main_arg0) = Vd m ρ c (Proc.devRef .tc main_arg0)

-- the implicit arguments are found by unifying conclusions, which takes unfolding plain definitions in a
-- metavariable's type
set_option backward.isDefEq.respectTransparency.types false in
/-- From any memory with zero counters every weakly fair execution of @main terminates, and every final state has the
    result and the argument at what the three segments compute and every semaphore counter at zero. -/
theorem run_main : θ_run defs (onTc (τ := τ) (main (F := F))) (s₀ m ρ) (fun r => (∀ c : Dev nD, Post m ρ r.2 c) ∧ r.2.sem = fun _ => 0) :=
  Pipeline.θ_run_regions_kit_sems (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (Va m ρ c) ∗ R c))
    (Tₙ := fun c => StableHlo.held (c : Thread nD τ) (ucRefs τ sig) (Vd m ρ c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (Va m ρ c) from Pipeline.unscopedBufs_held c (Va m ρ c)]
      iintro ⟨⟨Hh, -, HO, -, -, -⟩, -⟩
      imodintro
      isplitl [Hh]; · iexact Hh
      iexists ∅; iexact HO)
    (QY := fun c s => Post m ρ s c)
    (hfin := fun c s' => by
      rw [held_eq]
      iintro ⟨⟨Ha, -, -, H2⟩, HSI⟩
      icombine HSI Ha gives %ha
      icombine HSI H2 gives %h2
      imodintro
      isplitr; · ipureintro; exact ⟨Buf.eq_of_forall_mem_univ h2, Buf.eq_of_forall_mem_univ ha⟩
      iexact HSI)
    (hQ := fun _ h hz => ⟨h, funext fun g => hz g (.inr (by revert g; decide))⟩)

/-- The argument reaches the end as launched. -/
theorem Vd_arg0 (c : Dev nD) : Vd m ρ c (Proc.devRef .tc main_arg0) = m ((c : Thread nD τ).loc main_arg0) := by
  have h1 : Vd m ρ c (Proc.devRef .tc main_arg0) = Vc m ρ c (Proc.devRef .tc main_arg0) :=
    StableHlo.after_of_forall_not_mem (b := Proc.devRef .tc main_arg0) hostOps1 _ (by
      intro op hop
      simp only [List.mem_cons, List.mem_nil_iff, or_false] at hop
      subst hop
      simp only [StableHlo.reshape_writes, Finset.mem_singleton]
      exact StableHlo.devRef_ne_of_ne (by decide))
  have h2 : Vb m ρ c (Proc.devRef .tc main_arg0) = Va m ρ c (Proc.devRef .tc main_arg0) :=
    StableHlo.after_of_forall_not_mem (b := Proc.devRef .tc main_arg0) hostOps0 _ (by
      intro op hop
      simp only [List.mem_cons, List.mem_nil_iff, or_false] at hop
      subst hop
      simp only [StableHlo.reshape_writes, Finset.mem_singleton]
      exact StableHlo.devRef_ne_of_ne (by decide))
  exact (h1.trans (Vc_ne m ρ c main_arg0 (by decide))).trans h2

/-- The argument's rows. -/
def rowsOf (x : Vec F S4x4096x1024 .f32) : Vec F S16384x1024 .f32 := shapeCast S16384x1024 x shapeCasts_S4x4096x1024_S16384x1024
/-- The rows as four batches. -/
def batchesOf (y : Vec F S16384x1024 .f32) : Vec F S4x4096x1024 .f32 := shapeCast S4x4096x1024 y shapeCasts_S16384x1024_S4x4096x1024

theorem operand_eq (c : Dev nD) : operand m ρ c = rowsOf (m ((c : Thread nD τ).loc main_arg0)) := by
  unfold operand Vb
  after_results
  rfl

/-- The result is the scan of the argument's rows, as four batches. -/
theorem Vd_v2 (c : Dev nD) : Vd m ρ c (Proc.devRef .tc main_v2) = batchesOf (result (rowsOf (m ((c : Thread nD τ).loc main_arg0)))) := by
  have h : Vd m ρ c (Proc.devRef .tc main_v2) = batchesOf (Vc m ρ c (Proc.devRef .tc main_v1)) := by
    unfold Vd
    after_results
    rfl
  rw [h, Vc_v1, operand_eq]

/-- The whole run: the result is the scan, the argument is unchanged, every counter is at zero. -/
theorem run : θ_run defs (onTc (τ := τ) (main (F := F))) ⟨m, fun _ => 0, ρ⟩ (fun r =>
    (∀ c : Dev nD, r.2.mem ((c : Thread nD τ).loc main_v2) = batchesOf (result (rowsOf (m ((c : Thread nD τ).loc main_arg0))))
      ∧ r.2.mem ((c : Thread nD τ).loc main_arg0) = m ((c : Thread nD τ).loc main_arg0)) ∧ r.2.sem = fun _ => 0) :=
  (θ_run defs _ _).mono (fun _ h => ⟨fun c => ⟨(h.1 c).1.trans (Vd_v2 m ρ c), (h.1 c).2.trans (Vd_arg0 m ρ c)⟩, h.2⟩) (run_main m ρ)

end Cert.KernelIdeal.Scan

end
-- ==== Proof.Sums.lean ====
/-
  Sums of an initial stretch of a sequence, in any commutative monoid: the arithmetic both programs share.
-/
module

public import Mathlib.Algebra.BigOperators.Fin
public import Mathlib.Algebra.BigOperators.Intervals
public import Mathlib.Data.List.FinRange

@[expose] public section

namespace Cert.Sums

open scoped BigOperators

variable {R : Type*} [AddCommMonoid R]

/-- Adding the terms with index below `r`, among the first `n ≥ r`, is adding the first `r`. -/
theorem sum_below (f : ℕ → R) {n r : ℕ} (h : r ≤ n) :
    (∑ j : Fin n, if j.val < r then f j.val else 0) = ∑ j ∈ Finset.range r, f j := by
  rw [Fin.sum_univ_eq_sum_range (fun j => if j < r then f j else 0) n, ← Finset.sum_filter]
  congr 1
  ext j
  simp only [Finset.mem_filter, Finset.mem_range]
  omega

/-- The first `p + r` terms are the first `p` and then `r` more. -/
theorem sum_append (f : ℕ → R) (p r : ℕ) :
    (∑ j ∈ Finset.range r, f (p + j)) + ∑ j ∈ Finset.range p, f j = ∑ j ∈ Finset.range (p + r), f j := by
  rw [Finset.sum_range_add, add_comm]

/-- A window of `n` positions, of which position `w` reads term `i + w - n` if there is one: the first `i` terms. -/
theorem sum_window (f : ℕ → R) {n i : ℕ} (h : i ≤ n) :
    (∑ w : Fin n, if n ≤ i + w.val then f (i + w.val - n) else 0) = ∑ j ∈ Finset.range i, f j := by
  obtain ⟨d, rfl⟩ : ∃ d, n = d + i := ⟨n - i, by omega⟩
  rw [Fin.sum_univ_eq_sum_range (fun w => if d + i ≤ i + w then f (i + w - (d + i)) else 0) (d + i), Finset.sum_range_add,
    Finset.sum_eq_zero fun w hw => if_neg (by have := Finset.mem_range.1 hw; omega), zero_add]
  refine Finset.sum_congr rfl fun j _ => ?_
  rw [if_pos (by omega)]
  congr 1
  omega

/-- Folding addition over a list from `v` is `v` plus the sum of the list. -/
theorem foldl_add {ι : Type*} (l : List ι) (g : ι → R) (v : R) : l.foldl (fun r n => r + g n) v = v + (l.map g).sum := by
  induction l generalizing v with
  | nil => simp
  | cons a l ih => rw [List.foldl_cons, ih, List.map_cons, List.sum_cons, add_assoc]

end Cert.Sums
-- ==== Proof.BlockValue.lean ====
/-
  What one chunk computes over the reals: each row becomes the sum of the rows above it, plus the row carried in.
-/
module

public import proofs.«01_k».proof.Proof.Spec
public import proofs.«01_k».proof.Proof.Sums
public import Idealize.ShloMosaic.Lib.Pointwise
public import Idealize.ShloMosaic.Lib.WordCmp

@[expose] public section

set_option maxRecDepth 16384

noncomputable section

namespace Cert.KernelIdeal.Scan

open Cert.KernelIdeal Cert.KernelIdeal.Gen
open Idealize.ShloMosaic Idealize.ShloMosaic.TcCoe
open Idealize.SL Idealize.SL.Sem

/-- The row a batch starts from is zero. -/
theorem zeroRow_at (i : S1x1024.Idx) : zeroRow (F := Ideal) i = (0 : EReal) := by
  pointwise [zeroRow]

/-- Entry `(r, k)` of the triangle is 1 where `k < r` and 0 elsewhere: as a comparison's bit, made a number. -/
theorem bit_value (k r : Fin 256) :
    (FloatOps.sitofp (F := Ideal) .f32 (BitVec.setWidth 32 (IntOp.cmpi .slt (BitVec.ofNat 32 k.val) (BitVec.ofNat 32 r.val))) : EReal)
      = if k.val < r.val then 1 else 0 := by
  rw [WordCmp.cmpi_slt_ofNat (by have := k.isLt; omega) (by have := r.isLt; omega)]
  show ((((BitVec.setWidth 32 (BitVec.ofBool (decide (k.val < r.val)))).toInt : ℤ) : ℝ) : EReal) = _
  by_cases h : k.val < r.val
  · simp [h]
  · simp [h]

/-- Row `r` of what a chunk leaves: the sum of the chunk's rows before row `r`, plus the row carried in. -/
theorem outChunk_at (carry : FVec Ideal S1x1024 .f32) (v : Vec Ideal S1x256x1024 .f32) (r : Fin 256) (c : Fin 1024) :
    outChunk carry v (ValueIdx.ix3 (0 : Fin 1) r c)
      = (∑ j : Fin 256, if j.val < r.val then (v (ValueIdx.ix3 (0 : Fin 1) j c) : EReal) else 0) + carry (ValueIdx.ix2 (0 : Fin 1) c) := by
  pointwise [outChunk, tri, mat]
  refine congrArg (· + (carry (ValueIdx.ix2 (0 : Fin 1) c) : EReal)) (Finset.sum_congr rfl fun j _ => ?_)
  refine (congrArg (· * (v (ValueIdx.ix3 (0 : Fin 1) j c) : EReal)) (bit_value j r)).trans ?_
  split
  · exact one_mul _
  · exact zero_mul _

/-- The row carried out of a chunk: the row carried in, plus the sum of all the chunk's rows. -/
theorem nextCarry_at (carry : FVec Ideal S1x1024 .f32) (v : Vec Ideal S1x256x1024 .f32) (c : Fin 1024) :
    nextCarry carry v (ValueIdx.ix2 (0 : Fin 1) c)
      = (carry (ValueIdx.ix2 (0 : Fin 1) c) : EReal) + ∑ j : Fin 256, (v (ValueIdx.ix3 (0 : Fin 1) j c) : EReal) := by
  pointwise [nextCarry, mat]
  rfl

end Cert.KernelIdeal.Scan

end
-- ==== Proof.ArrayValue.lean ====
/-
  What the kernel's result holds over the reals: row `i` of a batch is the sum of the batch's rows before it.
-/
module

public import proofs.«01_k».proof.Proof.BlockValue
public import proofs.«01_k».proof.Proof.Run

@[expose] public section

set_option maxRecDepth 16384

noncomputable section

namespace Cert.KernelIdeal.Scan

open Cert.KernelIdeal Cert.KernelIdeal.Gen
open Idealize.ShloMosaic Idealize.ShloMosaic.TcCoe
open Idealize.SL Idealize.SL.Sem

/-- Column `c` of batch `b` of the rows, as a sequence. -/
def column (X : Vec Ideal S16384x1024 .f32) (b : ℕ) (c : Fin 1024) (j : ℕ) : EReal := X (at2 (4096 * b + j) c)

/-- Row `r` of chunk `16 b + q` is row `256 q + r` of batch `b`. -/
theorem xchunk_at (X : Vec Ideal S16384x1024 .f32) (b q : ℕ) (r : Fin 256) (c : Fin 1024) :
    xchunk X (16 * b + q) (ValueIdx.ix3 (0 : Fin 1) r c) = column X b c (256 * q + r.val) := by
  show X (at2 (256 * (16 * b + q) + r.val) c) = X (at2 (4096 * b + (256 * q + r.val)) c)
  rw [show 256 * (16 * b + q) + r.val = 4096 * b + (256 * q + r.val) by omega]

/-- Chunk `q` of batch `b` starts from the sum of the batch's first `256 q` rows. -/
theorem carryIn_at (X : Vec Ideal S16384x1024 .f32) (b : ℕ) (c : Fin 1024) : ∀ q : ℕ, q < 16 →
    carryIn X (16 * b + q) (ValueIdx.ix2 (0 : Fin 1) c) = ∑ j ∈ Finset.range (256 * q), column X b c j
  | 0, _ => by
    unfold carryIn
    rw [if_pos (by omega)]
    exact (zeroRow_at _).trans (by simp)
  | q + 1, h => by
    have hne : (16 * b + (q + 1)) % 16 ≠ 0 := by omega
    have e : carryIn X (16 * b + (q + 1)) = nextCarry (carryIn X (16 * b + q)) (xchunk X (16 * b + q)) := by
      rw [← carryAt_succ, carryIn, if_neg hne, add_assoc]
    rw [e]
    refine (nextCarry_at _ _ c).trans ?_
    rw [carryIn_at X b c q (by omega), show 256 * (q + 1) = 256 * q + 256 by omega, ← Sums.sum_append, add_comm,
      ← Fin.sum_univ_eq_sum_range (fun j => column X b c (256 * q + j)) 256]
    exact congrArg (· + _) (Finset.sum_congr rfl fun j _ => xchunk_at X b q j c)

/-- Row `256 q + r` of batch `b` of the result is the sum of the batch's rows before it. -/
theorem result_sum (X : Vec Ideal S16384x1024 .f32) (b : ℕ) (hb : b < 4) (i : ℕ) (hi : i < 4096) (c : Fin 1024) :
    result X (at2 (4096 * b + i) c) = ∑ j ∈ Finset.range i, column X b c j := by
  obtain ⟨q, r, rfl⟩ : ∃ (q : ℕ) (r : Fin 256), i = 256 * q + r.val :=
    ⟨i / 256, ⟨i % 256, by omega⟩, by show i = 256 * (i / 256) + i % 256; omega⟩
  have hq : q < 16 := by omega
  have e : 4096 * b + (256 * q + r.val) = 256 * (16 * b + q) + r.val := by omega
  rw [e, result_at X (16 * b + q) r c (by omega)]
  refine (outChunk_at _ _ r c).trans ?_
  rw [carryIn_at X b c q hq, ← Sums.sum_append, ← Sums.sum_below (fun j => column X b c (256 * q + j)) (Nat.le_of_lt r.isLt)]
  exact congrArg (· + _) (Finset.sum_congr rfl fun j _ => by rw [xchunk_at])

/-- The rows of an array of batches: row `4096 b + i` is row `i` of batch `b`. -/
theorem rowsOf_at (x : Vec Ideal S4x4096x1024 .f32) (b : Fin 4) (i : Fin 4096) (c : Fin 1024) :
    rowsOf x (at2 (4096 * b.val + i.val) c) = x (ValueIdx.ix3 b i c) := by
  have e : (4096 * b.val + i.val) % 16384 = 4096 * b.val + i.val := Nat.mod_eq_of_lt (by have := b.isLt; have := i.isLt; omega)
  pointwise [rowsOf, at2]
  refine congrArg x (funext fun a => Fin.ext ?_)
  match a with
  | ⟨0, _⟩ =>
    show (4096 * b.val + i.val) % 16384 / 4096 = b.val
    rw [e]; have := i.isLt; omega
  | ⟨1, _⟩ =>
    show (4096 * b.val + i.val) % 16384 % 4096 = i.val
    rw [e]; have := i.isLt; omega
  | ⟨2, _⟩ => rfl

/-- And back. -/
theorem batchesOf_at (y : Vec Ideal S16384x1024 .f32) (b : Fin 4) (i : Fin 4096) (c : Fin 1024) :
    batchesOf y (ValueIdx.ix3 b i c) = y (at2 (4096 * b.val + i.val) c) := by
  pointwise [batchesOf, at2]
  refine congrArg y (funext fun a => Fin.ext ?_)
  match a with
  | ⟨0, _⟩ =>
    show b.val * 4096 + i.val = (4096 * b.val + i.val) % 16384
    have := b.isLt; have := i.isLt; omega
  | ⟨1, _⟩ => rfl

/-- The kernel's whole effect: row `i` of batch `b` of what it returns is the sum of the batch's rows before row `i`. -/
theorem kernel_sum (x : Vec Ideal S4x4096x1024 .f32) (b : Fin 4) (i : Fin 4096) (c : Fin 1024) :
    batchesOf (result (rowsOf x)) (ValueIdx.ix3 b i c)
      = ∑ j ∈ Finset.range i.val, (x (ValueIdx.ix3 b (Fin.ofNat 4096 j) c) : EReal) := by
  rw [batchesOf_at, result_sum _ b.val b.isLt i.val i.isLt c]
  refine Finset.sum_congr rfl fun j hj => ?_
  have hj' : j < 4096 := (Finset.mem_range.1 hj).trans i.isLt
  have e : (Fin.ofNat 4096 j).val = j := Nat.mod_eq_of_lt hj'
  unfold column
  refine Eq.trans ?_ (rowsOf_at x b (Fin.ofNat 4096 j) c)
  rw [e]

end Cert.KernelIdeal.Scan

end
-- ==== Proof.ReferenceValue.lean ====
/-
  What the reference computes over the reals: a window sum of the operand shifted down by one row.
-/
module

public import proofs.«01_k».proof.Proof.Gen.ReferenceIdeal.Run
public import proofs.«01_k».proof.Proof.Sums
public import Idealize.ShloMosaic.Lib.Pointwise
public import Idealize.ShloMosaic.Lib.ValueLayout

@[expose] public section

set_option maxRecDepth 16384

noncomputable section

namespace Cert.ReferenceIdeal.Sum

open Cert.ReferenceIdeal Cert.ReferenceIdeal.Gen
open Idealize.ShloMosaic Idealize.ShloMosaic.TcCoe
open Idealize.SL Idealize.SL.Sem

/-- The operand shifted down by one row within each batch, a row of zeros coming in at the top. -/
def shifted (x : FVec Ideal S4x4096x1024 .f32) : FVec Ideal S4x4096x1024 .f32 :=
  concatenate S4x4096x1024 1 [⟨S4x1x1024, (broadcastInDim S4x1x1024 ![] bcast_S_S4x1x1024 (constant S_ .f32 0x00000000#32))⟩,
    ⟨S4x4095x1024, (extractStridedSlice S4x4095x1024 ![0, 0, 0] x slices_S4x4096x1024_S4x4095x1024_0_0_0)⟩]
    concatenates_S4x1x1024_S4x4095x1024_S4x4096x1024_d1

/-- The reference's result: over each row, the sum of the window that ends in it. -/
def total (x : FVec Ideal S4x4096x1024 .f32) : FVec Ideal S4x4096x1024 .f32 :=
  Host.reduceWindowAdd ![1, 4096, 1] ![1, 1, 1] ![0, 4095, 0] ![0, 0, 0] (shifted x)
    (broadcastInDim S_ ![] bcast_S_S_ (constant S_ .f32 0x00000000#32))
    reduceWindows_S4x4096x1024_S4x4096x1024_w1s1p0_0_w4096s1p4095_0_w1s1p0_0 h_S_

/-- Column `c` of batch `b`, as a sequence. -/
def column (x : FVec Ideal S4x4096x1024 .f32) (b : Fin 4) (c : Fin 1024) (j : ℕ) : EReal := x (ValueIdx.ix3 b (Fin.ofNat 4096 j) c)

/-- Row `i` of the shifted operand: zero at the top, else row `i - 1`. -/
theorem shifted_at (x : FVec Ideal S4x4096x1024 .f32) (b : Fin 4) (i : Fin 4096) (c : Fin 1024) :
    shifted x (ValueIdx.ix3 b i c) = if 1 ≤ i.val then column x b c (i.val - 1) else 0 := by
  pointwise [shifted, column]
  show (if h : i.val < 1 then (0 : EReal) else _) = _
  by_cases h : 1 ≤ i.val
  · rw [dif_neg (by omega), if_pos h]
    refine congrArg x (funext fun a => Fin.ext ?_)
    match a with
    | ⟨0, _⟩ => rfl
    | ⟨1, _⟩ => show i.val - 1 = (i.val - 1) % 4096; have := i.isLt; omega
    | ⟨2, _⟩ => rfl
  · rw [dif_pos (by omega), if_neg h]

/-- The shape of the window: one batch, 4096 rows, one column. -/
abbrev win : Shape := ⟨3, ![1, 4096, 1]⟩

/-- Position `n` of the window, in row-major order, is row `n`. -/
theorem win_row (n : Fin win.numel) : (win.rowMajor.symm n 0).val = 0 ∧ (win.rowMajor.symm n 1).val = n.val ∧ (win.rowMajor.symm n 2).val = 0 := by
  have h0 : (win.rowMajor.symm n 0).val < 1 := (win.rowMajor.symm n 0).isLt
  have h2 : (win.rowMajor.symm n 2).val < 1 := (win.rowMajor.symm n 2).isLt
  have h := Shape.rowMajor_val_three (win.rowMajor.symm n)
  rw [Equiv.apply_symm_apply] at h
  change n.val = ((win.rowMajor.symm n 0).val * 4096 + (win.rowMajor.symm n 1).val) * 1 + (win.rowMajor.symm n 2).val at h
  omega

/-- Where position `n` of the window at row `i` of batch `b`, column `c`, lies in the padded operand. -/
abbrev place (b : Fin 4) (i : Fin 4096) (c : Fin 1024) (n : Fin win.numel) (a : Fin 3) : ℕ :=
  (ValueIdx.ix3 b i c a).val * (![1, 1, 1] : Fin 3 → ℕ) a + (win.rowMajor.symm n a).val

/-- That place is not padding. -/
abbrev Inside (b : Fin 4) (i : Fin 4096) (c : Fin 1024) (n : Fin win.numel) : Prop :=
  ∀ a : Fin 3, (![0, 4095, 0] : Fin 3 → ℕ) a ≤ place b i c n a ∧ place b i c n a - (![0, 4095, 0] : Fin 3 → ℕ) a < S4x4096x1024.size a

/-- Past the padding, position `n` of the window at row `i` is row `i + n - 4095` of the operand, in the same batch and column. -/
theorem place_row (b : Fin 4) (i : Fin 4096) (c : Fin 1024) (n : Fin win.numel) (k : Fin 4096) (hk : k.val = i.val + n.val - 4095)
    (a : Fin 3) : place b i c n a - (![0, 4095, 0] : Fin 3 → ℕ) a = (ValueIdx.ix3 b k c a).val := by
  obtain ⟨h0, h1, h2⟩ := win_row n
  match a with
  | ⟨0, _⟩ => show b.val * 1 + (win.rowMajor.symm n 0).val - 0 = b.val; rw [h0]; omega
  | ⟨1, _⟩ => show i.val * 1 + (win.rowMajor.symm n 1).val - 4095 = k.val; rw [h1]; omega
  | ⟨2, _⟩ => show c.val * 1 + (win.rowMajor.symm n 2).val - 0 = c.val; rw [h2]; omega

/-- What the window at row `i` reads at its position `n`: row `i + n - 4096` of the operand if there is one, else zero. -/
theorem window_read (x : FVec Ideal S4x4096x1024 .f32) (b : Fin 4) (i : Fin 4096) (c : Fin 1024) (n : Fin win.numel)
    (hd : Decidable (Inside b i c n)) :
    (if hin : Inside b i c n then (shifted x (fun a => ⟨_, (hin a).2⟩) : EReal) else 0)
      = if 4096 ≤ i.val + n.val then column x b c (i.val + n.val - 4096) else 0 := by
  obtain ⟨h0, h1, h2⟩ := win_row n
  have hn : n.val < 4096 := h1 ▸ (win.rowMajor.symm n 1).isLt
  have hb := b.isLt
  have hi := i.isLt
  have hc := c.isLt
  split
  · next hin =>
    have q := (hin 1).1
    change 4095 ≤ i.val * 1 + (win.rowMajor.symm n 1).val at q
    rw [h1] at q
    have hlt : i.val + n.val - 4095 < 4096 := by omega
    have e : shifted x (ValueIdx.ix3 b ⟨i.val + n.val - 4095, hlt⟩ c) = _ := shifted_at x b ⟨i.val + n.val - 4095, hlt⟩ c
    refine (congrArg (shifted x) (a₂ := ValueIdx.ix3 b ⟨i.val + n.val - 4095, hlt⟩ c) (funext fun a => Fin.ext (place_row b i c n ⟨_, hlt⟩ rfl a))).trans (e.trans ?_)
    · show (if 1 ≤ i.val + n.val - 4095 then column x b c (i.val + n.val - 4095 - 1) else 0) = _
      by_cases h : 4096 ≤ i.val + n.val
      · rw [if_pos (by omega), if_pos h, Nat.sub_sub]
      · rw [if_neg (by omega), if_neg h]
  · next hin =>
    refine (if_neg fun h => hin fun a => ?_).symm
    match a with
    | ⟨0, _⟩ =>
      show 0 ≤ b.val * 1 + (win.rowMajor.symm n 0).val ∧ b.val * 1 + (win.rowMajor.symm n 0).val - 0 < 4
      rw [h0]; omega
    | ⟨1, _⟩ =>
      show 4095 ≤ i.val * 1 + (win.rowMajor.symm n 1).val ∧ i.val * 1 + (win.rowMajor.symm n 1).val - 4095 < 4096
      rw [h1]; omega
    | ⟨2, _⟩ =>
      show 0 ≤ c.val * 1 + (win.rowMajor.symm n 2).val ∧ c.val * 1 + (win.rowMajor.symm n 2).val - 0 < 1024
      rw [h2]; omega

/-- The window has 4096 positions. -/
theorem win_numel : win.numel = 4096 := by
  show ∏ a : Fin 3, (![1, 4096, 1] : Fin 3 → ℕ) a = 4096
  rw [Fin.prod_univ_three]
  rfl

/-- A sum over the window's positions, in order, is a sum over 4096 rows. -/
theorem win_sum (f : ℕ → EReal) : ((List.finRange win.numel).map fun n => f n.val).sum = ∑ w : Fin 4096, f w.val := by
  rw [Fin.sum_univ_eq_sum_range f 4096, ← win_numel, ← Fin.sum_univ_eq_sum_range f win.numel, Fin.sum_univ_def]

/-- Row `i` of batch `b` of the reference's result is the sum of the batch's rows before row `i`. -/
theorem reference_sum (x : FVec Ideal S4x4096x1024 .f32) (b : Fin 4) (i : Fin 4096) (c : Fin 1024) :
    total x (ValueIdx.ix3 b i c) = ∑ j ∈ Finset.range i.val, (x (ValueIdx.ix3 b (Fin.ofNat 4096 j) c) : EReal) := by
  have z : (broadcastInDim S_ ![] bcast_S_S_ (constant (F := Ideal) S_ .f32 0x00000000#32)) (Shape.Idx.first h_S_) = (0 : EReal) := by
    pointwise
  unfold total Host.reduceWindowAdd
  rw [z]
  rw [Ideal.hostReduceWindowAdd_def]
  unfold Ideal.hostReduceWindowAdd Host.reduceWindow
  refine (Sums.foldl_add _ _ (0 : EReal)).trans ?_
  rw [zero_add]
  refine (congrArg List.sum (List.map_congr_left (g := fun n => if 4096 ≤ i.val + n.val then column x b c (i.val + n.val - 4096) else 0)
    fun n _ => window_read x b i c n _)).trans ?_
  refine (win_sum (fun w => if 4096 ≤ i.val + w then column x b c (i.val + w - 4096) else 0)).trans ?_
  exact Sums.sum_window (column x b c) (Nat.le_of_lt i.isLt)

end Cert.ReferenceIdeal.Sum

end
-- ==== Proof.Equation.lean ====
/-
  The equation: over the reals, the kernel's result and the reference's are the same array.
-/
module

public import proofs.«01_k».proof.Proof.ArrayValue
public import proofs.«01_k».proof.Proof.ReferenceValue

@[expose] public section

noncomputable section

namespace Cert.Equation

open Idealize.ShloMosaic

/-- Of any operand, the kernel's chunked sums and the reference's window sums are the same array: at row `i` of a batch
    both are the sum of the batch's rows before row `i`. -/
theorem kernel_eq_reference (x : FVec Ideal Cert.KernelIdeal.S4x4096x1024 .f32) :
    Cert.KernelIdeal.Scan.batchesOf (F := Ideal) (Cert.KernelIdeal.Scan.result (Cert.KernelIdeal.Scan.rowsOf x)) = Cert.ReferenceIdeal.Sum.total x := by
  funext j
  rw [ValueIdx.eq_ix3 j]
  exact (Cert.KernelIdeal.Scan.kernel_sum x (j 0) (j 1) (j 2)).trans (Cert.ReferenceIdeal.Sum.reference_sum x (j 0) (j 1) (j 2)).symm

end Cert.Equation

end
-- ==== Proof.lean ====
/-
  The proof of `Cert.Claim`, from the modules under Proof/:
    Program     the kernel's body, written as a loop over tiles and chunks
    Spec        what the result holds, chunk by chunk, and where the schedule puts the chunks
    Geometry    the rectangles the copies and the accesses touch
    Steps       starting and waiting for one copy
    Chunks      one chunk, and the chunks of a tile
    Tile        one tile, and the tiles in order
    Body        the whole body, from the rings empty to the rings empty
    Run         the launch: the kernel ends with its result at `batchesOf (result (rowsOf x))`
    Sums        sums of an initial stretch of a sequence
    BlockValue, ArrayValue, ReferenceValue   what a chunk, the kernel and the reference compute over the reals
    Equation    the two results are the same array
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Equation

@[expose] public section

noncomputable section

namespace Cert.Proof

open Idealize.ShloMosaic Idealize.ShloMosaic.TcCoe Idealize.SL.Sem

set_option maxRecDepth 65536 in
/-- The kernel terminates from every memory, leaves its argument as it was, and leaves every semaphore counter at zero. -/
theorem kernel_frame : Cert.quiescent_Kernel (hKernel := Cert.Kernel.Gen.facts) := fun m g _ =>
  (θ_run _ _ _).mono (fun _ h => ⟨fun c => (h.1 c).2, h.2⟩) (Cert.KernelIdeal.Scan.run (F := Bits) m g)

/-- So does the kernel over the reals. -/
theorem kernelIdeal_frame : Cert.quiescent_KernelIdeal (hKernelIdeal := Cert.KernelIdeal.Gen.facts) := fun m g _ =>
  (θ_run _ _ _).mono (fun _ h => ⟨fun c => (h.1 c).2, h.2⟩) (Cert.KernelIdeal.Scan.run (F := Ideal) m g)

/-- So does the reference over the reals, which declares no semaphore. -/
theorem referenceIdeal_frame : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- Over the reals, from equal operands, the kernel and the reference end with equal results. -/
theorem algebraic : Cert.algebraic_KernelIdeal_ReferenceIdeal (hKernelIdeal := Cert.KernelIdeal.Gen.facts)
    (hReferenceIdeal := Cert.ReferenceIdeal.Gen.facts) := fun m g m' g' _ hagree =>
  ⟨fun c => Cert.KernelIdeal.Scan.batchesOf (F := Ideal) (Cert.KernelIdeal.Scan.result
      (Cert.KernelIdeal.Scan.rowsOf (m ((c.tc : Thread Cert.KernelIdeal.nD Cert.KernelIdeal.τ).loc Cert.KernelIdeal.main_arg0)))),
    (θ_run _ _ _).mono (fun _ h c => h.1 c) (Cert.KernelIdeal.Scan.run (F := Ideal) m g),
    (θ_run _ _ _).mono (fun _ h c => ⟨((h c).1.trans (congrArg Cert.ReferenceIdeal.Sum.total (hagree c))).trans
        (Cert.Equation.kernel_eq_reference _).symm, (h c).2⟩)
      (Cert.ReferenceIdeal.Value.run (F := Ideal) m' g')⟩

/-- All five claims together. -/
theorem claim : Cert.Claim := ⟨Cert.Kernel.Gen.facts, Cert.KernelIdeal.Gen.facts, Cert.ReferenceIdeal.Gen.facts,
  kernel_frame, kernelIdeal_frame, referenceIdeal_frame, trivial, algebraic⟩

end Cert.Proof

end
